-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ascending [hPre_ascending : Cert.Pre_ascending.Facts] (m : (ℓ : Loc Cert.KernelIdeal.nD Cert.KernelIdeal.τ Cert.KernelIdeal.sig) → Buf (Elt Ideal) ℓ) : Prop :=
  ∀ c : Dev Cert.KernelIdeal.nD,
    (Cert.Pre_ascending.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ascending [hPre_ascending : Cert.Pre_ascending.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ascending.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ascending [hKernelIdeal : Cert.KernelIdeal.Facts] [hPre_ascending : Cert.Pre_ascending.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ascending m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ascending [hReferenceIdeal : Cert.ReferenceIdeal.Facts] [hPre_ascending : Cert.Pre_ascending.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ascending m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ascending [hKernelIdeal : Cert.KernelIdeal.Facts] [hReferenceIdeal : Cert.ReferenceIdeal.Facts] [hPre_ascending : Cert.Pre_ascending.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ascending m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ascending : Cert.Pre_ascending.Facts),
    quiescent_Kernel (hKernel := hKernel)
    ∧ quiescent_KernelIdeal (hKernelIdeal := hKernelIdeal)
    ∧ quiescent_KernelIdeal_pre_ascending (hKernelIdeal := hKernelIdeal) (hPre_ascending := hPre_ascending)
    ∧ quiescent_ReferenceIdeal (hReferenceIdeal := hReferenceIdeal)
    ∧ quiescent_ReferenceIdeal_pre_ascending (hReferenceIdeal := hReferenceIdeal) (hPre_ascending := hPre_ascending)
    ∧ preserves_Kernel_KernelIdeal
    ∧ algebraic_KernelIdeal_ReferenceIdeal_pre_ascending (hKernelIdeal := hKernelIdeal) (hReferenceIdeal := hReferenceIdeal) (hPre_ascending := hPre_ascending)
-- ==== Pre_ascending.lean ====
abbrev S8388608 : Shape := ⟨1, ![8388608]⟩
abbrev S10 : Shape := ⟨1, ![10]⟩
abbrev S9 : Shape := ⟨1, ![9]⟩
abbrev S_ : Shape := ⟨0, ![]⟩

class Facts : Prop where
  slices_S10_S9_0 : S10.Slices ![0] S9
  slices_S10_S9_1 : S10.Slices ![1] S9
  reducesTo_S9_S_d0 : S9.ReducesTo [0] S_
  h_S_ : 0 < S_.numel

variable [Facts]

def fn {F : FTy → Type} [FloatOps F] (main_arg0 : FVec F S8388608 .f32) (main_arg1 : FVec F S10 .f32) : IVec S_ 1 :=
  let main_v0 : FVec F S9 .f32 := (extractStridedSlice S9 ![0] · slices_S10_S9_0) main_arg1
  let main_v1 : FVec F S9 .f32 := (extractStridedSlice S9 ![1] · slices_S10_S9_1) main_arg1
  let main_v2 : IVec S9 1 := cmpf .ole main_v0 main_v1
  let main_c : IVec S_ 1 := constantI S_ 1 1#1
  let main_v3 : IVec S_ 1 := (fun x v => Host.reduce IntOp.andi x v reducesTo_S9_S_d0 h_S_) main_v2 main_c
  main_v3
-- ==== Kernel.lean ====
abbrev S8388608 : Shape := ⟨1, ![8388608]⟩
abbrev S10 : Shape := ⟨1, ![10]⟩
abbrev S_ : Shape := ⟨0, ![]⟩
abbrev S16 : Shape := ⟨1, ![16]⟩
abbrev S6 : Shape := ⟨1, ![6]⟩
abbrev S1 : Shape := ⟨1, ![1]⟩
abbrev S15 : Shape := ⟨1, ![15]⟩
abbrev S1x16 : Shape := ⟨2, ![1, 16]⟩
abbrev S4x16 : Shape := ⟨2, ![4, 16]⟩
abbrev S16384 : Shape := ⟨1, ![16384]⟩

abbrev nBuf : Table → Nat
  | .hbm => 21
  | .local .scVector .vmem => 5
  | _ => 0

abbrev bufTy : (tb : Table) → Fin (nBuf tb) → BufTy
  | .hbm, ⟨0, _⟩ => ⟨S8388608, .f32⟩
  | .hbm, ⟨1, _⟩ => ⟨S10, .f32⟩
  | .hbm, ⟨2, _⟩ => ⟨S_, .f32⟩
  | .hbm, ⟨3, _⟩ => ⟨S16, .f32⟩
  | .hbm, ⟨4, _⟩ => ⟨S6, .f32⟩
  | .hbm, ⟨5, _⟩ => ⟨S16, .f32⟩
  | .hbm, ⟨6, _⟩ => ⟨S1, .f32⟩
  | .hbm, ⟨7, _⟩ => ⟨S_, .f32⟩
  | .hbm, ⟨8, _⟩ => ⟨S16, .f32⟩
  | .hbm, ⟨9, _⟩ => ⟨S15, .f32⟩
  | .hbm, ⟨10, _⟩ => ⟨S1, .f32⟩
  | .hbm, ⟨11, _⟩ => ⟨S16, .f32⟩
  | .hbm, ⟨12, _⟩ => ⟨S1, .f32⟩
  | .hbm, ⟨13, _⟩ => ⟨S_, .f32⟩
  | .hbm, ⟨14, _⟩ => ⟨S16, .f32⟩
  | .hbm, ⟨15, _⟩ => ⟨S1x16, .f32⟩
  | .hbm, ⟨16, _⟩ => ⟨S1x16, .f32⟩
  | .hbm, ⟨17, _⟩ => ⟨S1x16, .f32⟩
  | .hbm, ⟨18, _⟩ => ⟨S1x16, .f32⟩
  | .hbm, ⟨19, _⟩ => ⟨S4x16, .f32⟩
  | .hbm, ⟨20, _⟩ => ⟨S8388608, .i32⟩
  | .local .scVector .vmem, ⟨0, _⟩ => ⟨S16384, .f32⟩
  | .local .scVector .vmem, ⟨1, _⟩ => ⟨S16384, .f32⟩
  | .local .scVector .vmem, ⟨2, _⟩ => ⟨S16384, .i32⟩
  | .local .scVector .vmem, ⟨3, _⟩ => ⟨S16384, .i32⟩
  | .local .scVector .vmem, ⟨4, _⟩ => ⟨S4x16, .f32⟩
  | _, _ => ⟨S8388608, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_arg0_scv : Ref sig .scVector := ⟨.hbm, 0, rfl⟩
abbrev main_v16_scv : Ref sig .scVector := ⟨.hbm, 19, rfl⟩
abbrev main_v17_scv : Ref sig .scVector := ⟨.hbm, 20, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  ![v2.toNat]
@[reducible] def k0_t1_loop : Scf.Loop 32 :=
  let c0_i32_4 : BitVec 32 := 0#32
  let c8_i32_5 : BitVec 32 := 8#32
  let v16 : BitVec 32 := Scalar.addi c0_i32_4 c8_i32_5
  let c1_i32_6 : BitVec 32 := 1#32
  ⟨c0_i32_4, v16, c1_i32_6⟩
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c2_i32_12 : BitVec 32 := 2#32
  let c0_i32_4 : BitVec 32 := 0#32
  let c1_i32_6 : BitVec 32 := 1#32
  let arg14 : BitVec 32 := Scf.iv c0_i32_4 c1_i32_6 k0_t1
  let v21 : BitVec 32 := Scalar.muli c2_i32_12 arg14
  let c16384_i32 : BitVec 32 := 16384#32
  let v22 : BitVec 32 := Scalar.muli v21 c16384_i32
  let v23 : BitVec 32 := Scalar.addi v2 v22
  let c16384_i32_13 : BitVec 32 := 16384#32
  let v24 : BitVec 32 := Scalar.addi v23 c16384_i32_13
  ![v24.toNat]
@[reducible] def k0_t2_loop : Scf.Loop 32 :=
  let c0_i32_18 : BitVec 32 := 0#32
  let c1024_i32 : BitVec 32 := 1024#32
  let v32 : BitVec 32 := Scalar.addi c0_i32_18 c1024_i32
  let c1_i32_19 : BitVec 32 := 1#32
  ⟨c0_i32_18, v32, c1_i32_19⟩
def k0_off3 (k0_t2 : Fin k0_t2_loop.trips) : Fin 1 → Nat :=
  let c0_i32_31 : BitVec 32 := 0#32
  let c0_i32_18 : BitVec 32 := 0#32
  let c1_i32_19 : BitVec 32 := 1#32
  let arg15 : BitVec 32 := Scf.iv c0_i32_18 c1_i32_19 k0_t2
  let c1_i32_30 : BitVec 32 := 1#32
  let v46 : BitVec 32 := Scalar.muli arg15 c1_i32_30
  let v47 : BitVec 32 := Scalar.addi c0_i32_31 v46
  let c16_i32 : BitVec 32 := 16#32
  let v48 : BitVec 32 := Scalar.muli v47 c16_i32
  let v49 : Index := Scalar.indexCast v48
  ![v49.toNat]

def k0_chk1 (v12 : IVec S16 32) (v55 : IVec S16 32) : Prop :=
  (∀ a x, ((![v12, v55] : Fin 2 → IVec S16 32) a x).toNat < S4x16.size a)
theorem k0_idx1_inb : ∀ (v12 : IVec S16 32) (v55 : IVec S16 32) (k0_hw1 : k0_chk1 v12 v55), ∀ a x, ((![v12, v55] : Fin 2 → IVec S16 32) a x).toNat < S4x16.size a := fun v12 v55 k0_hw1 => k0_hw1

def k0_chk2 (v9 : IVec S16 32) (v59 : IVec S16 32) : Prop :=
  (∀ a x, ((![v9, v59] : Fin 2 → IVec S16 32) a x).toNat < S4x16.size a)
theorem k0_idx2_inb : ∀ (v9 : IVec S16 32) (v59 : IVec S16 32) (k0_hw2 : k0_chk2 v9 v59), ∀ a x, ((![v9, v59] : Fin 2 → IVec S16 32) a x).toNat < S4x16.size a := fun v9 v59 k0_hw2 => k0_hw2
def k0_off4 (k0_t2 : Fin k0_t2_loop.trips) : Fin 1 → Nat :=
  let c0_i32_31 : BitVec 32 := 0#32
  let c0_i32_18 : BitVec 32 := 0#32
  let c1_i32_19 : BitVec 32 := 1#32
  let arg15 : BitVec 32 := Scf.iv c0_i32_18 c1_i32_19 k0_t2
  let c1_i32_30 : BitVec 32 := 1#32
  let v46 : BitVec 32 := Scalar.muli arg15 c1_i32_30
  let v47 : BitVec 32 := Scalar.addi c0_i32_31 v46
  let c16_i32_32 : BitVec 32 := 16#32
  let v64 : BitVec 32 := Scalar.muli v47 c16_i32_32
  let v65 : Index := Scalar.indexCast v64
  ![v65.toNat]
def k0_off5 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c2_i32_12 : BitVec 32 := 2#32
  let c0_i32_4 : BitVec 32 := 0#32
  let c1_i32_6 : BitVec 32 := 1#32
  let arg14 : BitVec 32 := Scf.iv c0_i32_4 c1_i32_6 k0_t1
  let v21 : BitVec 32 := Scalar.muli c2_i32_12 arg14
  let c16384_i32 : BitVec 32 := 16384#32
  let v22 : BitVec 32 := Scalar.muli v21 c16384_i32
  let v23 : BitVec 32 := Scalar.addi v2 v22
  ![v23.toNat]
def k0_cond2 (k0_t1 : Fin k0_t1_loop.trips) : BitVec 1 :=
  let c0_i32_4 : BitVec 32 := 0#32
  let c1_i32_6 : BitVec 32 := 1#32
  let arg14 : BitVec 32 := Scf.iv c0_i32_4 c1_i32_6 k0_t1
  let c7_i32 : BitVec 32 := 7#32
  let v35 : BitVec 1 := Scalar.cmpi .slt arg14 c7_i32
  let v36 : BitVec 32 := Scalar.extui v35
  let c0_i32_21 : BitVec 32 := 0#32
  let v37 : BitVec 1 := Scalar.cmpi .ne v36 c0_i32_21
  v37

def k0_off6 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c2_i32_12 : BitVec 32 := 2#32
  let c0_i32_4 : BitVec 32 := 0#32
  let c1_i32_6 : BitVec 32 := 1#32
  let arg14 : BitVec 32 := Scf.iv c0_i32_4 c1_i32_6 k0_t1
  let v21 : BitVec 32 := Scalar.muli c2_i32_12 arg14
  let c16384_i32 : BitVec 32 := 16384#32
  let v22 : BitVec 32 := Scalar.muli v21 c16384_i32
  let v23 : BitVec 32 := Scalar.addi v2 v22
  let c32768_i32 : BitVec 32 := 32768#32
  let v46 : BitVec 32 := Scalar.addi v23 c32768_i32
  ![v46.toNat]
@[reducible] def k0_t3_loop : Scf.Loop 32 :=
  let c0_i32_26 : BitVec 32 := 0#32
  let c1024_i32_27 : BitVec 32 := 1024#32
  let v43 : BitVec 32 := Scalar.addi c0_i32_26 c1024_i32_27
  let c1_i32_28 : BitVec 32 := 1#32
  ⟨c0_i32_26, v43, c1_i32_28⟩
def k0_off7 (k0_t3 : Fin k0_t3_loop.trips) : Fin 1 → Nat :=
  let c0_i32_31 : BitVec 32 := 0#32
  let c0_i32_26 : BitVec 32 := 0#32
  let c1_i32_28 : BitVec 32 := 1#32
  let arg15 : BitVec 32 := Scf.iv c0_i32_26 c1_i32_28 k0_t3
  let c1_i32_30 : BitVec 32 := 1#32
  let v46 : BitVec 32 := Scalar.muli arg15 c1_i32_30
  let v47 : BitVec 32 := Scalar.addi c0_i32_31 v46
  let c16_i32 : BitVec 32 := 16#32
  let v48 : BitVec 32 := Scalar.muli v47 c16_i32
  let v49 : Index := Scalar.indexCast v48
  ![v49.toNat]

def k0_chk3 (v12 : IVec S16 32) (v55 : IVec S16 32) : Prop :=
  (∀ a x, ((![v12, v55] : Fin 2 → IVec S16 32) a x).toNat < S4x16.size a)
theorem k0_idx3_inb : ∀ (v12 : IVec S16 32) (v55 : IVec S16 32) (k0_hw3 : k0_chk3 v12 v55), ∀ a x, ((![v12, v55] : Fin 2 → IVec S16 32) a x).toNat < S4x16.size a := fun v12 v55 k0_hw3 => k0_hw3

def k0_chk4 (v9 : IVec S16 32) (v59 : IVec S16 32) : Prop :=
  (∀ a x, ((![v9, v59] : Fin 2 → IVec S16 32) a x).toNat < S4x16.size a)
theorem k0_idx4_inb : ∀ (v9 : IVec S16 32) (v59 : IVec S16 32) (k0_hw4 : k0_chk4 v9 v59), ∀ a x, ((![v9, v59] : Fin 2 → IVec S16 32) a x).toNat < S4x16.size a := fun v9 v59 k0_hw4 => k0_hw4
def k0_off8 (k0_t3 : Fin k0_t3_loop.trips) : Fin 1 → Nat :=
  let c0_i32_31 : BitVec 32 := 0#32
  let c0_i32_26 : BitVec 32 := 0#32
  let c1_i32_28 : BitVec 32 := 1#32
  let arg15 : BitVec 32 := Scf.iv c0_i32_26 c1_i32_28 k0_t3
  let c1_i32_30 : BitVec 32 := 1#32
  let v46 : BitVec 32 := Scalar.muli arg15 c1_i32_30
  let v47 : BitVec 32 := Scalar.addi c0_i32_31 v46
  let c16_i32_32 : BitVec 32 := 16#32
  let v64 : BitVec 32 := Scalar.muli v47 c16_i32_32
  let v65 : Index := Scalar.indexCast v64
  ![v65.toNat]
def k0_off9 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c2_i32_12 : BitVec 32 := 2#32
  let c0_i32_4 : BitVec 32 := 0#32
  let c1_i32_6 : BitVec 32 := 1#32
  let arg14 : BitVec 32 := Scf.iv c0_i32_4 c1_i32_6 k0_t1
  let v21 : BitVec 32 := Scalar.muli c2_i32_12 arg14
  let c16384_i32 : BitVec 32 := 16384#32
  let v22 : BitVec 32 := Scalar.muli v21 c16384_i32
  let v23 : BitVec 32 := Scalar.addi v2 v22
  let c16384_i32_13 : BitVec 32 := 16384#32
  let v24 : BitVec 32 := Scalar.addi v23 c16384_i32_13
  ![v24.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8388608 : Shape := ⟨1, ![8388608]⟩
abbrev S10 : Shape := ⟨1, ![10]⟩
abbrev S8388608x1 : Shape := ⟨2, ![8388608, 1]⟩
abbrev S1x10 : Shape := ⟨2, ![1, 10]⟩
abbrev S8388608x10 : Shape := ⟨2, ![8388608, 10]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8388608, .f32⟩
  | .hbm, ⟨1, _⟩ => ⟨S10, .f32⟩
  | .hbm, ⟨2, _⟩ => ⟨S8388608x1, .f32⟩
  | .hbm, ⟨3, _⟩ => ⟨S1x10, .f32⟩
  | .hbm, ⟨4, _⟩ => ⟨S8388608x10, .f32⟩
  | .hbm, ⟨5, _⟩ => ⟨S8388608x10, .f32⟩
  | .hbm, ⟨6, _⟩ => ⟨S8388608x10, .i1⟩
  | .hbm, ⟨7, _⟩ => ⟨S8388608x10, .i32⟩
  | .hbm, ⟨8, _⟩ => ⟨S8388608x10, .i32⟩
  | .hbm, ⟨9, _⟩ => ⟨S_, .i32⟩
  | .hbm, ⟨10, _⟩ => ⟨S_, .i32⟩
  | .hbm, ⟨11, _⟩ => ⟨S8388608, .i32⟩
  | .hbm, ⟨12, _⟩ => ⟨S8388608, .i32⟩
  | .hbm, ⟨13, _⟩ => ⟨S_, .i1⟩
  | .hbm, ⟨14, _⟩ => ⟨S8388608, .i1⟩
  | .hbm, ⟨15, _⟩ => ⟨S_, .i32⟩
  | .hbm, ⟨16, _⟩ => ⟨S_, .i32⟩
  | .hbm, ⟨17, _⟩ => ⟨S8388608, .i32⟩
  | .hbm, ⟨18, _⟩ => ⟨S8388608, .i32⟩
  | _, _ => ⟨S8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_c : Ref sig .tc := ⟨.hbm, 9, rfl⟩
abbrev main_call0_c_0 : Ref sig .tc := ⟨.hbm, 10, rfl⟩
abbrev main_call0_v1_0 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_call1_v1 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Proof.Search.lean ====
/-
  What one lane of the kernel computes: the place of a number in a sorted table, by a binary search of the
  4×16 table the host prepares. Row 3 and row 1 of the table decide the first step (start at 8, 4 or 0), row 2
  the second (two further or not) and row 0 the third (one further or not). Every place reached stays below 16,
  whatever the table holds, so each of the kernel's look-ups falls inside the table.
-/
module

public import proofs.«01_k».proof.Proof.Gen.KernelIdeal
public import proofs.«01_k».proof.Proof.Gen.KernelIdeal.Skeleton
public import Idealize.ShloMosaic.Lib.ViewIndex

@[expose] public section

noncomputable section

namespace Cert.Proof.Search

open Cert.KernelIdeal Cert.KernelIdeal.Gen
open Idealize.ShloMosaic

variable {F : FTy → Type} [FloatOps F]

/-- The table's index at row `r`, column `c`. -/
def cell (r c : ℕ) : S4x16.Idx := fun a => match a with
  | ⟨0, _⟩ => (⟨r % 4, Nat.mod_lt _ (by decide)⟩ : Fin 4)
  | ⟨1, _⟩ => (⟨c % 16, Nat.mod_lt _ (by decide)⟩ : Fin 16)

/-- Two indices of the table are equal if their coordinates are. -/
theorem table_ext {x y : S4x16.Idx} (h0 : (x 0).val = (y 0).val) (h1 : (x 1).val = (y 1).val) : x = y :=
  funext fun a => match a with
    | ⟨0, _⟩ => Fin.ext h0
    | ⟨1, _⟩ => Fin.ext h1

/-- Where lane `l` starts for `x`: 8, 4 or 0, by the table's rows 3 and 1. -/
def start (t : Vec F S4x16 .f32) (l : ℕ) (x : F .f32) : BitVec 32 :=
  Scalar.select (FloatOps.cmpf .olt (t (cell 3 l) : F .f32) x) 8#32
    (Scalar.select (FloatOps.cmpf .olt (t (cell 1 l) : F .f32) x) 4#32 0#32)

/-- After the second step: two further if row 2 at the place reached is below `x`. -/
def middle (t : Vec F S4x16 .f32) (l : ℕ) (x : F .f32) : BitVec 32 :=
  IntOp.addi (start t l x) (Scalar.select (FloatOps.cmpf .olt (t (cell 2 (start t l x).toNat) : F .f32) x) 2#32 0#32)

/-- The place found: one further if row 0 at the place reached is below `x`. -/
def place (t : Vec F S4x16 .f32) (l : ℕ) (x : F .f32) : BitVec 32 :=
  IntOp.addi (middle t l x) (Scalar.select (FloatOps.cmpf .olt (t (cell 0 (middle t l x).toNat) : F .f32) x) 1#32 0#32)

/-- A selection is one of its two values. -/
theorem select_cases {α : Type} (p : α → Prop) (c : BitVec 1) {a b : α} (ha : p a) (hb : p b) : p (Scalar.select c a b) := by
  unfold Scalar.select; split <;> assumption

/-- The start is 8, 4 or 0. -/
theorem start_cases (t : Vec F S4x16 .f32) (l : ℕ) (x : F .f32) :
    start t l x = 8#32 ∨ start t l x = 4#32 ∨ start t l x = 0#32 :=
  select_cases (fun v => v = 8#32 ∨ v = 4#32 ∨ v = 0#32) _ (.inl rfl)
    (select_cases (fun v => v = 8#32 ∨ v = 4#32 ∨ v = 0#32) _ (.inr (.inl rfl)) (.inr (.inr rfl)))

/-- The start lies inside a row. -/
theorem start_lt (t : Vec F S4x16 .f32) (l : ℕ) (x : F .f32) : (start t l x).toNat < 16 := by
  rcases start_cases t l x with h | h | h <;> rw [h] <;> decide

/-- The place after the second step lies inside a row. -/
theorem middle_lt (t : Vec F S4x16 .f32) (l : ℕ) (x : F .f32) : (middle t l x).toNat < 16 := by
  unfold middle
  refine select_cases (fun v => (IntOp.addi (start t l x) v).toNat < 16) _ ?_ ?_ <;>
    rcases start_cases t l x with h | h | h <;> rw [h] <;> decide

/-- What the kernel leaves in its result for the table `t` and the numbers `xs`: at each index the place of the number
    there, the lane being the index modulo 16. -/
def found (t : Vec F S4x16 .f32) (xs : Vec F S8388608 .f32) : IVec S8388608 32 :=
  fun j => place t ((j 0).val % 16) (xs j)

/-! ## The kernel's vectors, lane by lane -/

/-- Lane `l`'s entry of a row of the table loaded as a 1×16 vector. -/
def RowOf (t : Vec F S4x16 .f32) (r : ℕ) (v : Vec F S1x16 .f32) : Prop :=
  ∀ l : S16.Idx, shapeCast S16 v shapeCasts_S1x16_S16 l = t (cell r (l 0).val)

/-- A recast to the same shape changes nothing. -/
theorem recast {α : Type} (v : S16.Idx → α) : shapeCast S16 v shapeCasts_S16_S16 = v := by
  funext l
  show v (Shape.reshapeEquiv _ l) = v l
  rw [Shape.reshapeEquiv_self]

/-- The vector of starts, lane by lane. -/
theorem starts_apply {t : Vec F S4x16 .f32} {v4 v7 : Vec F S1x16 .f32} (h3 : RowOf t 3 v4) (h1 : RowOf t 1 v7)
    (v : Vec F S16 .f32) (l : S16.Idx) :
    k0_pay7 v4 v7 (broadcast S16 0#32) v l = start t (l 0).val (v l) := by
  have e3 := h3 l
  have e1 := h1 l
  have ev : k0_pay6 v l = v l := congrFun (recast v) l
  show Scalar.select (FloatOps.cmpf .olt (k0_pay1 v4 l) (k0_pay6 v l)) 8#32
    (Scalar.select (FloatOps.cmpf .olt (k0_pay2 v7 l) (k0_pay6 v l)) 4#32 0#32) = _
  rw [ev, show k0_pay1 v4 l = _ from e3, show k0_pay2 v7 l = _ from e1]
  rfl

/-- The vector of places after the second step, lane by lane. -/
theorem middles_apply {t : Vec F S4x16 .f32} {v : Vec F S16 .f32} {p : IVec S16 32} {g : Vec F S16 .f32} (l : S16.Idx)
    (hp : p l = start t (l 0).val (v l)) (hg : g l = t (cell 2 (p l).toNat)) :
    k0_pay8 (broadcast S16 0#32) (broadcast S16 2#32) v p g l = middle t (l 0).val (v l) := by
  have ev : k0_pay6 v l = v l := congrFun (recast v) l
  show IntOp.addi (p l) (Scalar.select (FloatOps.cmpf .olt (g l) (k0_pay6 v l)) 2#32 0#32) = _
  rw [ev, hg, hp]
  rfl

/-- The vector of places found, lane by lane. -/
theorem places_apply {t : Vec F S4x16 .f32} {v : Vec F S16 .f32} {p : IVec S16 32} {g : Vec F S16 .f32} (l : S16.Idx)
    (hp : p l = middle t (l 0).val (v l)) (hg : g l = t (cell 0 (p l).toNat)) :
    k0_pay9 (broadcast S16 0#32) v p g l = place t (l 0).val (v l) := by
  have ev : k0_pay6 v l = v l := congrFun (recast v) l
  show shapeCast S16 (fun l => IntOp.addi (p l) (Scalar.select (FloatOps.cmpf .olt (g l) (k0_pay6 v l)) 1#32 0#32))
    shapeCasts_S16_S16 l = _
  rw [recast]
  dsimp only
  rw [ev, hg, hp]
  rfl

/-- A look-up at one row and a vector of places reads, lane by lane, the row at the place. -/
theorem lookup_apply (t : Vec F S4x16 .f32) (r : BitVec 32) (p : IVec S16 32)
    (h : ∀ a x, ((![broadcast S16 r, p] : Fin 2 → IVec S16 32) a x).toNat < S4x16.size a) (l : S16.Idx) :
    loadIdx t ![broadcast S16 r, p] h l = t (cell r.toNat (p l).toNat) := by
  have h0 : r.toNat < 4 := h 0 l
  have h1 : (p l).toNat < 16 := h 1 l
  show t (idxAt _ h l) = _
  refine congrArg t (table_ext ?_ ?_)
  · show r.toNat = r.toNat % 4
    omega
  · show (p l).toNat = (p l).toNat % 16
    omega

/-- A look-up at a row below 4 and places below 16 falls inside the table. -/
theorem lookup_inb {r : BitVec 32} {p : IVec S16 32} (hr : r.toNat < 4) (hp : ∀ l, (p l).toNat < 16) :
    ∀ a x, ((![broadcast S16 r, p] : Fin 2 → IVec S16 32) a x).toNat < S4x16.size a := fun a x =>
  match a with
  | ⟨0, _⟩ => hr
  | ⟨1, _⟩ => hp x

end Cert.Proof.Search

end
-- ==== Proof.Setup.lean ====
/-
  The kernel's launch as the launch theorem sees it: the program's parameters, the resource algebra (the handshakes'
  rounds beside the counters of the tiles' own copies), the arrays, and the sets of elements the tiles and their copies
  work on. The numbers and the result are one axis of 8388608 elements: every set here is a run of consecutive
  indices. Tile `i` (SparseCore `i 0`, subcore `i 1`) works on the 262144 elements from `base i`, in sixteen chunks
  of 16384.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Search

@[expose] public section

noncomputable section

namespace Cert.Proof.Search

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program's parameters -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' semaphores are distinct and outlive the kernel; no array of a SparseCore is shared by its tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

local notation "𝕄" => MT nD τ sig (HIx 1) (Elt F) ℕ UU ℕ

/-- The handshakes' rounds: the left factor. The copies' counters are found in the right by instance. -/
abbrev EH : Emb UH (MT nD τ sig (HIx 1) (Elt F) ℕ UU ℕ) := embL
/-- The copies' counters. -/
abbrev EC : UEmb Counters (MT nD τ sig (HIx 1) (Elt F) ℕ UU ℕ) := countersEmb

/-! ## The arrays -/

abbrev xLoc (d : Dev nD) : Loc nD τ sig := (SparseCore.T d).loc main_arg0
abbrev tLoc (d : Dev nD) : Loc nD τ sig := (SparseCore.T d).loc main_v16
abbrev oLoc (d : Dev nD) : Loc nD τ sig := (SparseCore.T d).loc main_v17

-- the kernel's memrefs, as the body table passes them
abbrev xW : Memref sig .scVector .hbm S8388608 .f32 := Memref.whole main_arg0_scv
abbrev tW : Memref sig .scVector .hbm S4x16 .f32 := Memref.whole main_v16_scv
abbrev oW : Memref sig .scVector .hbm S8388608 .i32 := Memref.whole main_v17_scv
abbrev xA : Memref sig .scVector .vmem S16384 .f32 := Memref.whole cc0_scratch0
abbrev xB : Memref sig .scVector .vmem S16384 .f32 := Memref.whole cc0_scratch1
abbrev oA : Memref sig .scVector .vmem S16384 .i32 := Memref.whole cc0_scratch2
abbrev oB : Memref sig .scVector .vmem S16384 .i32 := Memref.whole cc0_scratch3
abbrev tV : Memref sig .scVector .vmem S4x16 .f32 := Memref.whole cc0_scratch4

/-- The thread of tile `i` on device `d`. -/
abbrev tile (d : Dev nD) (i : grid0.Coords) : Thread nD τ := V d ((i 0).castLE hcore0) ((i 1).castLE hsub0)

/-! ## Runs of consecutive indices -/

/-- The indices from `a` up to `b`. -/
def run (a b : ℕ) : Finset S8388608.Idx := Finset.univ.filter fun j => a ≤ (j 0).val ∧ (j 0).val < b

theorem mem_run {a b : ℕ} {j : S8388608.Idx} : j ∈ run a b ↔ a ≤ (j 0).val ∧ (j 0).val < b := by simp [run]

/-- Runs that do not overlap are disjoint. -/
theorem run_disjoint {a b c e : ℕ} (h : b ≤ c ∨ e ≤ a) : Disjoint (run a b) (run c e) :=
  Finset.disjoint_left.mpr fun j h1 h2 => by
    rw [mem_run] at h1 h2
    omega

/-- A run cut in two. -/
theorem run_union {a b c : ℕ} (h1 : a ≤ b) (h2 : b ≤ c) : run a b ∪ run b c = run a c :=
  Finset.ext fun j => by
    simp only [Finset.mem_union, mem_run]
    omega

/-- The empty run. -/
theorem run_self (a : ℕ) : run a a = ∅ := Finset.eq_empty_of_forall_notMem fun j h => by
  rw [mem_run] at h
  omega

/-- The numbers held on a run are held on its two parts, and back. -/
theorem x_cut (d : Dev nD) {q : PosShare TreeShare} {f : Buf (Elt F) (xLoc d)} {a b c : ℕ} (h1 : a ≤ b) (h2 : b ≤ c) :
    (xLoc d ↦[run a c]{q} f : sProp 𝕄) ⊣⊢ iprop((xLoc d ↦[run a b]{q} f) ∗ xLoc d ↦[run b c]{q} f) := by
  rw [← run_union h1 h2]
  exact pointsTo_union (run_disjoint (.inl le_rfl))

/-- The result held on a run is held on its two parts, and back. -/
theorem o_cut (d : Dev nD) {q : PosShare TreeShare} {f : Buf (Elt F) (oLoc d)} {a b c : ℕ} (h1 : a ≤ b) (h2 : b ≤ c) :
    (oLoc d ↦[run a c]{q} f : sProp 𝕄) ⊣⊢ iprop((oLoc d ↦[run a b]{q} f) ∗ oLoc d ↦[run b c]{q} f) := by
  rw [← run_union h1 h2]
  exact pointsTo_union (run_disjoint (.inl le_rfl))

/-- The first index tile `i` works on. -/
def base (i : grid0.Coords) : ℕ := 524288 * (i 1).val + 262144 * (i 0).val

/-- A tile's run lies inside the array. -/
theorem base_le (i : grid0.Coords) : base i + 262144 ≤ 8388608 := by
  have h0 : (i 0).val < 2 := (i 0).isLt
  have h1 : (i 1).val < 16 := (i 1).isLt
  unfold base
  omega

/-- A tile's run starts at a multiple of 16. -/
theorem base_mod (i : grid0.Coords) : base i % 16 = 0 := by
  unfold base
  omega

end Cert.Proof.Search

end
-- ==== Proof.Trip.lean ====
/-
  The kernel's inner loop: sixteen numbers a trip, 1024 trips a chunk. A trip loads sixteen numbers, checks and makes
  two look-ups in the table and stores sixteen places. The body has the loop twice, once for each of its two pairs of
  chunk buffers, and the two are one program at other buffers: everything is proved of that program once.
-/
module

public import proofs.«01_k».proof.Proof.Setup

@[expose] public section

noncomputable section

namespace Cert.Proof.Search

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- One trip over the chunk buffers `x` and `o`: the printed trip, its other operands the kernel's own. -/
abbrev tripOf (i : grid0.Coords) (x : Memref sig .scVector .vmem S16384 .f32) (hx : x.IsWhole)
    (o : Memref sig .scVector .vmem S16384 .i32) (ho : o.IsWhole) (v4 v7 : Vec F S1x16 .f32) :=
  k0_t2_body (F := F) i xW (Memref.isWhole_whole _) tW (Memref.isWhole_whole _) oW (Memref.isWhole_whole _)
    x hx x hx o ho o ho tV (Memref.isWhole_whole _) cc0_scratch5 cc0_scratch6 cc0_scratch7 cc0_scratch8 cc0_scoped0
    v4 v7 (broadcast S16 0#32) (broadcast S16 2#32)

/-- The first inner loop's trip is `tripOf` at the first pair of buffers. -/
theorem body_t2 (i : grid0.Coords) (v4 v7 : Vec F S1x16 .f32) :
    k0_t2_body (F := F) i xW (Memref.isWhole_whole _) tW (Memref.isWhole_whole _) oW (Memref.isWhole_whole _)
      xA (Memref.isWhole_whole _) xB (Memref.isWhole_whole _) oA (Memref.isWhole_whole _) oB (Memref.isWhole_whole _)
      tV (Memref.isWhole_whole _) cc0_scratch5 cc0_scratch6 cc0_scratch7 cc0_scratch8 cc0_scoped0
      v4 v7 (broadcast S16 0#32) (broadcast S16 2#32)
    = tripOf i xA (Memref.isWhole_whole _) oA (Memref.isWhole_whole _) v4 v7 := rfl

/-- The second inner loop's trip is `tripOf` at the second pair of buffers. -/
theorem body_t3 (i : grid0.Coords) (v4 v7 : Vec F S1x16 .f32) :
    k0_t3_body (F := F) i xW (Memref.isWhole_whole _) tW (Memref.isWhole_whole _) oW (Memref.isWhole_whole _)
      xA (Memref.isWhole_whole _) xB (Memref.isWhole_whole _) oA (Memref.isWhole_whole _) oB (Memref.isWhole_whole _)
      tV (Memref.isWhole_whole _) cc0_scratch5 cc0_scratch6 cc0_scratch7 cc0_scratch8 cc0_scoped0
      v4 v7 (broadcast S16 0#32) (broadcast S16 2#32)
    = tripOf i xB (Memref.isWhole_whole _) oB (Memref.isWhole_whole _) v4 v7 := rfl

/-- The places of a chunk's numbers: lane by lane, the lane being the index modulo 16. -/
def placesOf (t : Vec F S4x16 .f32) (xs : Vec F S16384 .f32) : IVec S16384 32 := fun j => place t ((j 0).val % 16) (xs j)

/-- The first `n` entries of a chunk are done: they are the places of the chunk's numbers. -/
def Done (t : Vec F S4x16 .f32) (xs : Vec F S16384 .f32) (n : ℕ) (out : IVec S16384 32) : Prop :=
  ∀ j : S16384.Idx, (j 0).val < n → out j = placesOf t xs j

/-- What a trip keeps: the table, the chunk's numbers, and the places of the first `16 k` of them. -/
def tripInv (d : Dev nD) (i : grid0.Coords) (x : Memref sig .scVector .vmem S16384 .f32) (o : Memref sig .scVector .vmem S16384 .i32)
    (t : Vec F S4x16 .f32) (fx : Buf (Elt F) (x.view.loc (tile d i))) (k : ℕ) (_ : Unit) : sProp 𝕄 :=
  iprop((tV.view.loc (tile d i) ↦{fullShare} t) ∗ (x.view.loc (tile d i) ↦{fullShare} fx)
    ∗ ∃ fo, ⌜Done t (x.view.read (Elt F) fx) (16 * k) (o.view.read (Elt F) fo)⌝ ∗ o.view.loc (tile d i) ↦{fullShare} fo)

/-- The sixteen entries of a chunk a trip loads and stores. -/
abbrev sixteen (k : Fin k0_t2_loop.trips) : Rect S16384 := Rect.unit (s := S16384) (k0_off4 k) S16.size (k0_off4_inb k)

/-- Where entry `l` of trip `k`'s sixteen lies in the chunk. -/
theorem sixteen_val (k : Fin k0_t2_loop.trips) (l : S16.Idx) : (((sixteen k).emb l : S16384.Idx) 0).val = 16 * k.val + (l 0).val := by
  show (((sixteen k).toLoadRect.idx l : S16384.Idx) 0).val = _
  rw [LoadRect.idx_apply]
  show (k0_off4 k) 0 + 1 * (l 0).val = _
  rw [k0_off4_eq]
  simp

/-- Storing a trip's sixteen places does sixteen entries more. -/
theorem done_step {o : Memref sig .scVector .vmem S16384 .i32} {t : Vec F S4x16 .f32} {xs : Vec F S16384 .f32} {k : Fin k0_t2_loop.trips}
    {fo : o.view.ty.Contents (Elt F)} (h : Done t xs (16 * k.val) (o.view.read (Elt F) fo)) {w : IVec S16 32}
    (hw : ∀ l, w l = placesOf t xs ((sixteen k).emb l)) :
    Done t xs (16 * (k.val + 1)) (o.view.read (Elt F) ((o.access (sixteen k)).write (Elt F) fo w Finset.univ)) := by
  intro j hj
  have he : (o.access (sixteen k)).write (Elt F) fo w Finset.univ = o.view.writes (Elt F) fo [⟨sixteen k, w⟩] := rfl
  rw [he]
  by_cases hm : j ∈ (sixteen k).set
  · obtain ⟨l, rfl⟩ : ∃ l, (sixteen k).emb l = j := (sixteen k).exists_idx_of_mem hm
    rw [View.read_writes_cons_emb]
    exact hw l
  · refine (View.read_writes_cons_miss o.view fo ⟨sixteen k, w⟩ [] j hm).trans (h j ?_)
    by_contra hlt
    refine hm (Rect.mem_set_unit.mpr fun a => ?_)
    obtain rfl : a = 0 := Subsingleton.elim _ _
    rw [k0_off4_eq]
    show 16 * k.val ≤ (j 0).val ∧ (j 0).val < 16 * k.val + 16
    omega

/-- One trip does sixteen entries more. -/
theorem trip (d : Dev nD) (i : grid0.Coords) {x : Memref sig .scVector .vmem S16384 .f32} {hx : x.IsWhole}
    {o : Memref sig .scVector .vmem S16384 .i32} {ho : o.IsWhole} {v4 v7 : Vec F S1x16 .f32}
    {t : Vec F S4x16 .f32} (h3 : RowOf t 3 v4) (h1 : RowOf t 1 v7) (fx : Buf (Elt F) (x.view.loc (tile d i))) (k : Fin k0_t2_loop.trips) (u : Unit) :
    tripInv d i x o t fx k.val u
      ⊢ wp frame (wpE (defs₀ (F := F)) 𝒱₀ (tile d i) none) Set.univ (tripOf i x hx o ho v4 v7 k u) (tripInv d i x o t fx (k.val + 1)) := by
  unfold tripOf k0_t2_body
  simp only [Prog.lift, Prog.bind_op, Prog.bind_ret, Prog.pure_eq_ret]
  unfold tripInv
  iintro ⟨Ht, Hx, %fo, %hfo, Ho⟩
  -- the sixteen numbers
  iapply (wp_load 𝒱₀ (tile d i) none Set.univ (m := x) (S := Finset.univ) (Finset.subset_univ _)) $$ Hx; iintro Hx
  generalize hv : x.view.readAt (Elt F) (Rect.unit (s := S16384) (k0_off3 k) S16.size (k0_off3_inb k)).toLoadRect fx = v
  -- the two look-ups, their checks passed
  have e1 := starts_apply h3 h1 v
  generalize k0_pay7 v4 v7 (broadcast S16 0#32) v = p1 at e1 ⊢
  have c1 : k0_chk1 (broadcast S16 2#32) p1 := lookup_inb (by decide) fun l => (e1 l).symm ▸ start_lt t _ _
  rw [wp_assume_of (P := k0_chk1 (broadcast S16 2#32) p1) _ _ _ _ c1]
  iapply (SparseCore.wp_vectorLoadIdx 𝒱₀ (tile d i) none Set.univ (base := tV) (S := Finset.univ) (q := fullShare) (Finset.subset_univ _)) $$ Ht; iintro Ht
  have e2 : ∀ l, k0_pay8 (broadcast S16 0#32) (broadcast S16 2#32) v p1
      (loadIdx ((tV.access (Rect.whole S4x16)).read (Elt F) t) ![broadcast S16 2#32, p1] c1) l = middle t (l 0).val (v l) := fun l =>
    middles_apply l (e1 l) (by
      rw [show (tV.access (Rect.whole S4x16)).read (Elt F) t = t from Memref.read_access_whole (Elt F) cc0_scratch4 t]
      exact lookup_apply t 2#32 p1 c1 l)
  generalize k0_pay8 (broadcast S16 0#32) (broadcast S16 2#32) v p1
      (loadIdx ((tV.access (Rect.whole S4x16)).read (Elt F) t) ![broadcast S16 2#32, p1] c1) = p2 at e2 ⊢
  have c2 : k0_chk2 (broadcast S16 0#32) p2 := lookup_inb (by decide) fun l => (e2 l).symm ▸ middle_lt t _ _
  rw [wp_assume_of (P := k0_chk2 (broadcast S16 0#32) p2) _ _ _ _ c2]
  iapply (SparseCore.wp_vectorLoadIdx 𝒱₀ (tile d i) none Set.univ (base := tV) (S := Finset.univ) (q := fullShare) (Finset.subset_univ _)) $$ Ht; iintro Ht
  have e3 : ∀ l, k0_pay9 (broadcast S16 0#32) v p2
      (loadIdx ((tV.access (Rect.whole S4x16)).read (Elt F) t) ![broadcast S16 0#32, p2] c2) l = place t (l 0).val (v l) := fun l =>
    places_apply l (e2 l) (by
      rw [show (tV.access (Rect.whole S4x16)).read (Elt F) t = t from Memref.read_access_whole (Elt F) cc0_scratch4 t]
      exact lookup_apply t 0#32 p2 c2 l)
  generalize k0_pay9 (broadcast S16 0#32) v p2
      (loadIdx ((tV.access (Rect.whole S4x16)).read (Elt F) t) ![broadcast S16 0#32, p2] c2) = w at e3 ⊢
  -- the sixteen places stored, what they overwrite read before
  iapply (wp_load 𝒱₀ (tile d i) none Set.univ (m := o) (S := Finset.univ) (Finset.subset_univ _)) $$ Ho; iintro Ho
  iapply (wp_store 𝒱₀ (tile d i) none Set.univ (m := o) (r := sixteen k) (Mk := Finset.univ) (S := Finset.univ) (Finset.subset_univ _)) $$ Ho; iintro Ho
  rw [wp_ret]; imodintro
  isplitl [Ht]
  · iexact Ht
  isplitl [Hx]
  · iexact Hx
  iexists _
  isplitr
  rotate_left
  · iexact Ho
  · ipureintro
    refine done_step hfo fun l => (e3 l).trans ?_
    have hl : (l 0).val < 16 := (l 0).isLt
    show _ = place t ((((sixteen k).emb l : S16384.Idx) 0).val % 16) (x.view.read (Elt F) fx ((sixteen k).emb l))
    rw [sixteen_val, show (16 * k.val + (l 0).val) % 16 = (l 0).val by omega, ← hv]
    rfl

end Cert.Proof.Search

end
-- ==== Proof.Copy.lean ====
/-
  The copies of one chunk: 16384 numbers fetched into a chunk buffer, 16384 places pushed from a chunk buffer. Each rule
  is stated over the run of indices the copy moves, so what a copy delivers can be joined to what is already held: a
  fetch delivers the chunk's numbers, a push of a chunk's places delivers the result's run holding the places found.
-/
module

public import proofs.«01_k».proof.Proof.Trip

@[expose] public section

noncomputable section

namespace Cert.Proof.Search

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- Entry `j` of the chunk at `a`, as an index of the whole array (for a chunk inside it). -/
def entry (a : ℕ) (j : S16384.Idx) : S8388608.Idx := fun b => match b with
  | ⟨0, _⟩ => (⟨(a + (j 0).val) % 8388608, Nat.mod_lt _ (by decide)⟩ : Fin 8388608)

/-- The chunk at `a` of the numbers `X`. -/
def chunkOf (X : Vec F S8388608 .f32) (a : ℕ) : Vec F S16384 .f32 := fun j => X (entry a j)

/-- A chunk's slice of an array, at the offset `a`. -/
abbrev piece {off : Fin 1 → ℕ} (inb : ∀ a, off a + S16384.size a ≤ S8388608.size a) : Rect S8388608 :=
  Rect.unit (s := S8388608) off S16384.size inb

/-- The slice's elements are the run at its offset. -/
theorem piece_set {off : Fin 1 → ℕ} {inb : ∀ a, off a + S16384.size a ≤ S8388608.size a} {a : ℕ} (ha : off = ![a]) :
    (piece inb).set = run a (a + 16384) := by
  subst ha
  refine Finset.ext fun j => ?_
  rw [Rect.mem_set_unit, mem_run]
  exact ⟨fun h => h 0, fun h b => by obtain rfl : b = 0 := Subsingleton.elim _ _; exact h⟩

/-- The slice's entry `j` is the array's entry `a + j`. -/
theorem piece_emb {off : Fin 1 → ℕ} {inb : ∀ a, off a + S16384.size a ≤ S8388608.size a} {a : ℕ} (ha : off = ![a]) (j : S16384.Idx) :
    (piece inb).emb j = entry a j := by
  subst ha
  refine funext fun b => ?_
  obtain rfl : b = 0 := Subsingleton.elim _ _
  refine Fin.ext ?_
  show (((piece inb).toLoadRect.idx j : S8388608.Idx) 0).val = (a + (j 0).val) % 8388608
  rw [LoadRect.idx_apply]
  have hj : (j 0).val < 16384 := (j 0).isLt
  have hb : a + 16384 ≤ 8388608 := inb 0
  show a + 1 * (j 0).val = _
  rw [Nat.mod_eq_of_lt (by omega)]
  omega

/-- A chunk buffer holding the vector `v`. -/
def holds (d : Dev nD) (i : grid0.Coords) {e : EltTy} (b : Memref sig .scVector .vmem S16384 e) (v : Vec F S16384 e) : sProp 𝕄 :=
  iprop(∃ f, ⌜b.view.read (Elt F) f = v⌝ ∗ b.view.loc (tile d i) ↦{fullShare} f)

/-- A chunk buffer holding anything. -/
def holdsAny (d : Dev nD) (i : grid0.Coords) {e : EltTy} (b : Memref sig .scVector .vmem S16384 e) : sProp 𝕄 :=
  iprop(∃ f : Buf (Elt F) (b.view.loc (tile d i)), b.view.loc (tile d i) ↦{fullShare} f)

/-- What a fetch of the chunk at `a` delivers: the buffer holding the chunk, and the array's run back. -/
def fetched (d : Dev nD) (i : grid0.Coords) (b : Memref sig .scVector .vmem S16384 .f32) (X : Vec F S8388608 .f32) (a : ℕ) : sProp 𝕄 :=
  iprop(holds d i b (chunkOf X a) ∗ xLoc d ↦[run a (a + 16384)]{fullShare} X)

/-- What a push of the chunk at `a` delivers: the result's run at the places found, and the buffer back. -/
def pushed (d : Dev nD) (i : grid0.Coords) (b : Memref sig .scVector .vmem S16384 .i32) (t : Vec F S4x16 .f32) (X : Vec F S8388608 .f32) (a : ℕ) :
    sProp 𝕄 :=
  iprop((oLoc d ↦[run a (a + 16384)]{fullShare} (found t X : Buf (Elt F) (oLoc d))) ∗ holdsAny d i b)

/-- What a copy of one chunk of places credits its semaphore. -/
abbrev outCredit : ℕ := (oW.slice (piece inb_S8388608_S16384_0) (fun _ => rfl)).view.dmaCredit

/-- Fetching a chunk: issued with the run, the buffer and the idle semaphore, it is in flight towards `fetched`. -/
theorem fetch (d : Dev nD) (i : grid0.Coords) {b : Memref sig .scVector .vmem S16384 .f32} {sm : DmaSem sig}
    {off : Fin 1 → ℕ} {inb : ∀ a, off a + S16384.size a ≤ S8388608.size a} {hr} {a : ℕ} (ha : off = ![a])
    {hsrc hdst hsem} {k : PUnit → Prog (TpuEff nD τ sig (Elt F) Λ₀ (tile d i).2) PUnit} {Q : PUnit → sProp 𝕄} {X : Vec F S8388608 .f32} :
    iprop((xLoc d ↦[run a (a + 16384)]{fullShare} (X : Buf (Elt F) (xLoc d))) ∗ holdsAny d i b ∗ semVal (tile d i, .dma sm) 0)
      ⊢ iprop((Transfers.Flight EC (tile d i) (.dma sm) none b.view.dmaCredit (fetched d i b X a)
            -∗ wp frame (wpE (defs₀ (F := F)) 𝒱₀ (tile d i) none) Set.univ (k ⟨⟩) Q)
          -∗ wp frame (wpE (defs₀ (F := F)) 𝒱₀ (tile d i) none) Set.univ
              (.op (.enqueueDma (xW.slice (piece inb) hr) (.here b) (.dma sm) hsrc hdst hsem) k) Q) := by
  have hset : (xW.slice (piece inb) hr).view.set = run a (a + 16384) := (View.set_slice_whole _ _).trans (piece_set ha)
  have hread : (xW.slice (piece inb) hr).view.read (Elt F) X = chunkOf X a := funext fun j => congrArg X (piece_emb ha j)
  unfold holdsAny
  iintro ⟨Hx, ⟨%f, Hb⟩, Hs⟩ Hk
  iapply (Transfers.wp_dmaLocal EC 𝒱₀ (tile d i) none (src := xW.slice (piece inb) hr) (dst := b) (Sd := Finset.univ) (q := fullShare) (fs := X) (fd := f)
    none b.view.dmaCredit rfl (View.amount_pos b.view (.dma sm) (show 0 < S16384.numel by decide)) (Finset.subset_univ _)) $$ [Hx Hb Hs]
  · isplitl [Hx]
    · rw [hset]; iexact Hx
    isplitl [Hb]
    · iexact Hb
    · iexact Hs
  iintro Hf
  iapply Hk
  iapply (Transfers.Flight_mono EC (tile d i) ?_) $$ Hf
  rw [hset]
  unfold fetched holds
  iintro ⟨Hb, Hx⟩
  isplitl [Hb]
  · iexists _
    isplitr
    rotate_left
    · iexact Hb
    · ipureintro
      rw [View.read_write_univ]
      exact hread
  · iexact Hx

/-- The places of a chunk are what `found` has on the chunk's run. -/
theorem found_entry {t : Vec F S4x16 .f32} {X : Vec F S8388608 .f32} {a : ℕ} (h16 : a % 16 = 0) (hle : a + 16384 ≤ 8388608) (j : S16384.Idx) :
    placesOf t (chunkOf X a) j = found t X (entry a j) := by
  have hj : (j 0).val < 16384 := (j 0).isLt
  show place t ((j 0).val % 16) (X (entry a j)) = place t ((a + (j 0).val) % 8388608 % 16) (X (entry a j))
  rw [show (a + (j 0).val) % 8388608 % 16 = (j 0).val % 16 by omega]

/-- Pushing a chunk of places: issued with the buffer, the result's run and the idle semaphore, it is in flight towards
    `pushed`. -/
theorem push (d : Dev nD) (i : grid0.Coords) {b : Memref sig .scVector .vmem S16384 .i32} (hb : b.IsWhole) {sm : DmaSem sig}
    {off : Fin 1 → ℕ} {inb : ∀ a, off a + S16384.size a ≤ S8388608.size a} {hr} {a : ℕ} (ha : off = ![a]) (h16 : a % 16 = 0)
    {hsrc hdst hsem} {k : PUnit → Prog (TpuEff nD τ sig (Elt F) Λ₀ (tile d i).2) PUnit} {Q : PUnit → sProp 𝕄}
    {t : Vec F S4x16 .f32} {X : Vec F S8388608 .f32} {fo : Buf (Elt F) (oLoc d)} :
    iprop(holds d i b (placesOf t (chunkOf X a)) ∗ (oLoc d ↦[run a (a + 16384)]{fullShare} fo) ∗ semVal (tile d i, .dma sm) 0)
      ⊢ iprop((Transfers.Flight EC (tile d i) (.dma sm) none outCredit (pushed d i b t X a)
            -∗ wp frame (wpE (defs₀ (F := F)) 𝒱₀ (tile d i) none) Set.univ (k ⟨⟩) Q)
          -∗ wp frame (wpE (defs₀ (F := F)) 𝒱₀ (tile d i) none) Set.univ
              (.op (.enqueueDma b (.here (oW.slice (piece inb) hr)) (.dma sm) hsrc hdst hsem) k) Q) := by
  have hset : (oW.slice (piece inb) hr).view.set = run a (a + 16384) := (View.set_slice_whole _ _).trans (piece_set ha)
  have hle : a + 16384 ≤ 8388608 := by subst ha; exact inb 0
  have hw : ∀ f, b.view.read (Elt F) f = placesOf t (chunkOf X a) → ∀ y ∈ run a (a + 16384),
      (oW.slice (piece inb) hr).view.write (Elt F) fo (b.view.read (Elt F) f) Finset.univ y = found t X y := fun f hf y hy => by
    rw [← piece_set (inb := inb) ha] at hy
    obtain ⟨x, rfl⟩ : ∃ x, (piece inb).emb x = y := (piece inb).exists_idx_of_mem hy
    refine (View.write_emb_of_mem (v := (oW.slice (piece inb) hr).view) fo (b.view.read (Elt F) f) (Finset.mem_univ x)).trans ?_
    rw [piece_emb ha]
    exact (congrFun hf x).trans (found_entry h16 hle x)
  unfold holds
  iintro ⟨⟨%f, %hf, Hb⟩, Ho, Hs⟩ Hk
  iapply (Transfers.wp_dmaLocal EC 𝒱₀ (tile d i) none (src := b) (dst := oW.slice (piece inb) hr) (Sd := run a (a + 16384)) (q := fullShare) (fs := f) (fd := fo)
    none outCredit rfl (View.amount_pos (oW.slice (piece inb) hr).view (.dma sm) (show 0 < S16384.numel by decide)) (hset ▸ subset_rfl)) $$ [Hb Ho Hs]
  · isplitl [Hb]
    · rw [hb.set_eq_univ]; iexact Hb
    isplitl [Ho]
    · iexact Ho
    · iexact Hs
  iintro Hf
  iapply Hk
  iapply (Transfers.Flight_mono EC (tile d i) ?_) $$ Hf
  rw [hb.set_eq_univ]
  unfold pushed holdsAny
  iintro ⟨Ho, Hb⟩
  isplitl [Ho]
  · iapply (Entails.of_eq (pointsTo_congr (hw f hf))) $$ Ho
  · iexists f; iexact Hb

end Cert.Proof.Search

end
-- ==== Proof.Round.lean ====
/-
  One trip of the kernel's outer loop works on two chunks, one through each pair of buffers. Between trips one fetch is
  in flight (the next chunk's) and, from the second trip on, two pushes (the last two chunks'). `roundInv` says what is
  held at the head of trip `n`, in runs of the tile's own indices: the numbers fetched so far, the run of the result
  already delivered at its places, and the run not yet written.
-/
module

public import proofs.«01_k».proof.Proof.Copy

@[expose] public section

noncomputable section

namespace Cert.Proof.Search

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## A chunk searched -/

/-- The inner loop: a chunk's numbers in, their places out. -/
theorem chunk_loop (d : Dev nD) (i : grid0.Coords) {x : Memref sig .scVector .vmem S16384 .f32} {hx : x.IsWhole}
    {o : Memref sig .scVector .vmem S16384 .i32} {ho : o.IsWhole} {v4 v7 : Vec F S1x16 .f32}
    {t : Vec F S4x16 .f32} (h3 : RowOf t 3 v4) (h1 : RowOf t 1 v7) {xs : Vec F S16384 .f32}
    {kk : Unit → Prog (TpuEff nD τ sig (Elt F) Λ₀ (tile d i).2) PUnit} {Q : PUnit → sProp 𝕄} :
    iprop((tV.view.loc (tile d i) ↦{fullShare} t) ∗ holds d i x xs ∗ holdsAny d i o)
      ⊢ iprop((((tV.view.loc (tile d i) ↦{fullShare} t) ∗ holdsAny d i x ∗ holds d i o (placesOf t xs))
            -∗ wp frame (wpE (defs₀ (F := F)) 𝒱₀ (tile d i) none) Set.univ (kk ⟨⟩) Q)
          -∗ wp frame (wpE (defs₀ (F := F)) 𝒱₀ (tile d i) none) Set.univ (k0_t2_loop.for k0_t2_ok ⟨⟩ (tripOf i x hx o ho v4 v7) >>= kk) Q) := by
  unfold holds holdsAny
  iintro ⟨Ht, ⟨%fx, %hfx, Hx⟩, ⟨%fo, Ho⟩⟩ Hk
  iapply (Scf.wp_for_bind frame (wpE (defs₀ (F := F)) 𝒱₀ (tile d i) none) Set.univ _ _ _ k0_t2_ok ⟨⟩ (tripOf i x hx o ho v4 v7)
    (tripInv d i x o t fx) (fun k u => trip d i h3 h1 fx k u)) $$ [Ht Hx Ho]
  · unfold tripInv
    isplitl [Ht]; · iexact Ht
    isplitl [Hx]; · iexact Hx
    iexists fo
    isplitr
    · ipureintro; intro j hj; exact absurd hj (Nat.not_lt_zero _)
    · iexact Ho
  unfold tripInv
  iintro %u ⟨Ht, Hx, %fo', %hfo, Ho⟩
  iapply Hk
  isplitl [Ht]; · iexact Ht
  isplitl [Hx]
  · iexists fx; iexact Hx
  iexists fo'
  isplitr
  · ipureintro
    funext j
    rw [← hfx]
    exact hfo j (j 0).isLt
  · iexact Ho

/-! ## Waits -/

/-- What a tile carries for its waits: that it may wait, and what it owes, its waits so far its own. -/
def dues (d : Dev nD) (i : grid0.Coords) (O : CellTallies nD τ sig (HIx 1)) (W : Waits sig (HIx 1)) : sProp 𝕄 :=
  iprop(Transfers.MayWaits (tile d i) none O ∗ ∃ W', ⌜∀ p ∈ W', p ∈ W ∨ p.2 = none⌝ ∗ owes (tile d i) O W')

/-- Waiting for a copy in flight: what it delivers, and its semaphore idle again. -/
theorem await (d : Dev nD) (i : grid0.Coords) {sem : DmaSem sig} {κ' : Kind} {sp sp' : Space} {s s' : Shape} {e e' : EltTy}
    {srcw : Memref sig (tile d i).2.kind sp' s' e'} {dstw : Memref sig κ' sp s e} {hsrc hdst} {N : ℕ} (hN : dstw.view.dmaCredit = N)
    {D : sProp 𝕄} {O : CellTallies nD τ sig (HIx 1)} {W : Waits sig (HIx 1)}
    {k : PUnit → Prog (TpuEff nD τ sig (Elt F) Λ₀ (tile d i).2) PUnit} {Q : PUnit → sProp 𝕄} :
    iprop(Transfers.Flight EC (tile d i) (.dma sem) none N D ∗ dues d i O W)
      ⊢ iprop((iprop(D ∗ semVal (tile d i, .dma sem) 0 ∗ dues d i O W) -∗ wp frame (wpE (defs₀ (F := F)) 𝒱₀ (tile d i) none) Set.univ (k ⟨⟩) Q)
          -∗ wp frame (wpE (defs₀ (F := F)) 𝒱₀ (tile d i) none) Set.univ (.op (.waitDma2 sem srcw dstw hsrc hdst) k) Q) := by
  unfold dues
  iintro ⟨Hf, #Hm, %W', %hW, HO⟩ Hk
  iapply (Transfers.wp_waitLocalO EC 𝒱₀ (tile d i) none none hN (O := O) (W := W')) $$ [Hf HO]
  · isplitl [Hf]; · iexact Hf
    isplitl [HO]; · iexact HO
    iapply (Transfers.MayWaits.elim (SemLoc.dma sem)) $$ Hm
  iintro ⟨HD, Hs, HO⟩
  iapply Hk
  isplitl [HD]; · iexact HD
  isplitl [Hs]; · iexact Hs
  isplitr; · iexact Hm
  iexists (insert (SemLoc.dma sem, none) W')
  isplitr
  · ipureintro
    intro p hp
    rcases Finset.mem_insert.mp hp with rfl | hp
    · exact .inr rfl
    · exact hW p hp
  · iexact HO

/-! ## The conditional steps of a trip -/

/-- The bit the kernel tests for "not the first trip". -/
theorem later_iff : ∀ k : Fin k0_t1_loop.trips,
    Scalar.cmpi .ne (Scalar.extui (Scalar.cmpi .sge (Scf.iv 0#32 1#32 k) 1#32) : BitVec 32) 0#32 = 1#1 ↔ k.val ≠ 0 := by decide

/-- The bit the kernel tests for "not the last trip". -/
theorem more_iff : ∀ k : Fin k0_t1_loop.trips, k0_cond2 k = 1#1 ↔ k.val ≠ 7 := by decide

/-- The offsets of a trip's four copies, in the tile's own terms. -/
theorem off6_at (i : grid0.Coords) (k : Fin k0_t1_loop.trips) : k0_off6 i k = ![base i + 32768 * (k.val + 1)] := by
  rw [k0_off6_eq, Nat.mul_succ, ← Nat.add_assoc]; rfl

theorem off2_at (i : grid0.Coords) (k : Fin k0_t1_loop.trips) : k0_off2 i k = ![base i + 32768 * k.val + 16384] := k0_off2_eq i k

theorem off5_at (i : grid0.Coords) (k : Fin k0_t1_loop.trips) : k0_off5 i k = ![base i + 32768 * k.val] := k0_off5_eq i k

theorem off9_at (i : grid0.Coords) (k : Fin k0_t1_loop.trips) : k0_off9 i k = ![base i + 32768 * k.val + 16384] := k0_off9_eq i k

/-- How far the result is delivered when the chunks up to `s` of the trip before are in: nothing on the first trip. -/
def edge (i : grid0.Coords) (n s : ℕ) : ℕ := base i + (32768 * n - (32768 - s))

/-- A result buffer at the head of trip `n`: idle on the first, else its push of the trip before in flight. -/
def outSide (d : Dev nD) (i : grid0.Coords) (b : Memref sig .scVector .vmem S16384 .i32) (sm : DmaSem sig) (t : Vec F S4x16 .f32)
    (X : Vec F S8388608 .f32) (s : ℕ) : ℕ → sProp 𝕄
  | 0 => iprop(holdsAny d i b ∗ semVal (tile d i, .dma sm) 0)
  | n + 1 => Transfers.Flight EC (tile d i) (.dma sm) none outCredit (pushed d i b t X (base i + 32768 * n + s))

/-- The first numbers' buffer at the head of trip `n`: its next chunk in flight while there is one, and the numbers after. -/
def inSide (d : Dev nD) (i : grid0.Coords) (X : Vec F S8388608 .f32) (n : ℕ) : sProp 𝕄 :=
  if n < 8 then iprop(Transfers.Flight EC (tile d i) (.dma cc0_scratch5.sem) none xA.view.dmaCredit (fetched d i xA X (base i + 32768 * n))
      ∗ xLoc d ↦[run (base i + 32768 * n + 16384) (base i + 262144)]{fullShare} (X : Buf (Elt F) (xLoc d)))
  else iprop(holdsAny d i xA ∗ semVal (tile d i, .dma cc0_scratch5.sem) 0)

/-- The wait for a result buffer, made except on the first trip: the buffer idle, the run it pushed delivered. -/
theorem drain (d : Dev nD) (i : grid0.Coords) {b : Memref sig .scVector .vmem S16384 .i32} {sm : DmaSem sig} {t : Vec F S4x16 .f32}
    {X : Vec F S8388608 .f32} {s : ℕ} (hs : s ≤ 16384) {n : ℕ} {c : Prop} [Decidable c] (hc : c ↔ n ≠ 0) {O : CellTallies nD τ sig (HIx 1)} {W : Waits sig (HIx 1)}
    {dstw : Memref sig .scVector .hbm S16384 .i32} {hsrc hdst} (hN : dstw.view.dmaCredit = outCredit)
    {R : Prog (TpuEff nD τ sig (Elt F) Λ₀ (tile d i).2) PUnit} {Q : PUnit → sProp 𝕄} :
    iprop((oLoc d ↦[run (base i) (edge i n s)]{fullShare} (found t X : Buf (Elt F) (oLoc d))) ∗ outSide d i b sm t X s n ∗ dues d i O W)
      ⊢ iprop((iprop((oLoc d ↦[run (base i) (edge i n (s + 16384))]{fullShare} (found t X : Buf (Elt F) (oLoc d)))
              ∗ holdsAny d i b ∗ semVal (tile d i, .dma sm) 0 ∗ dues d i O W)
            -∗ wp frame (wpE (defs₀ (F := F)) 𝒱₀ (tile d i) none) Set.univ R Q)
          -∗ wp frame (wpE (defs₀ (F := F)) 𝒱₀ (tile d i) none) Set.univ
              (if _h : c then .op (.waitDma2 sm b dstw hsrc hdst) (fun _ => R) else R) Q) := by
  cases n with
  | zero =>
    rw [dif_neg (fun h => hc.mp h rfl), show edge i 0 (s + 16384) = edge i 0 s by unfold edge; omega]
    unfold outSide
    iintro ⟨Ho, ⟨Hb, Hs⟩, HO⟩ Hk
    iapply Hk
    isplitl [Ho]; · iexact Ho
    isplitl [Hb]; · iexact Hb
    isplitl [Hs] <;> iassumption
  | succ n =>
    rw [dif_pos (hc.mpr (Nat.succ_ne_zero n)), show edge i (n + 1) s = base i + 32768 * n + s by unfold edge; omega,
      show edge i (n + 1) (s + 16384) = base i + 32768 * n + s + 16384 by unfold edge; omega]
    unfold outSide
    iintro ⟨Ho, Hf, HO⟩ Hk
    iapply (await d i hN) $$ [Hf HO]
    · isplitl [Hf] <;> iassumption
    unfold pushed
    iintro ⟨⟨Hp, Hb⟩, Hs, HO⟩
    iapply Hk
    isplitl [Ho Hp]
    · iapply (o_cut d (show base i ≤ base i + 32768 * n + s by omega) (show base i + 32768 * n + s ≤ base i + 32768 * n + s + 16384 by omega)).2
      isplitl [Ho] <;> iassumption
    isplitl [Hb]; · iexact Hb
    isplitl [Hs] <;> iassumption

/-- The fetch of the next trip's first chunk, made except on the last trip. -/
theorem refill (d : Dev nD) (i : grid0.Coords) (k : Fin k0_t1_loop.trips) {X : Vec F S8388608 .f32} {hsrc : ∀ h : k0_cond2 k = 1#1, (xW.slice (piece (k0_off6_inb i k h)) (fun _ => rfl)).view.WordExact} {hdst : xA.view.WordExact}
    {hsem : DmaTarget.Typed (nD := nD) (τ := τ) (p := (tile d i).2) .hbm (SemLoc.dma cc0_scratch5.sem) (.here xA)}
    {R : Prog (TpuEff nD τ sig (Elt F) Λ₀ (tile d i).2) PUnit} {Q : PUnit → sProp 𝕄} :
    iprop((xLoc d ↦[run (base i + 32768 * (k.val + 1)) (base i + 262144)]{fullShare} (X : Buf (Elt F) (xLoc d)))
        ∗ holdsAny d i xA ∗ semVal (tile d i, .dma cc0_scratch5.sem) 0)
      ⊢ iprop((inSide d i X (k.val + 1) -∗ wp frame (wpE (defs₀ (F := F)) 𝒱₀ (tile d i) none) Set.univ R Q)
          -∗ wp frame (wpE (defs₀ (F := F)) 𝒱₀ (tile d i) none) Set.univ
              (if h : k0_cond2 k = 1#1 then
                .op (.enqueueDma (xW.slice (piece (k0_off6_inb i k h)) (fun _ => rfl)) (.here xA) (.dma cc0_scratch5.sem) (hsrc h) hdst hsem) (fun _ => R)
              else R) Q) := by
  have hk : k.val < 8 := k.isLt
  unfold inSide
  by_cases h : k.val = 7
  · rw [dif_neg (fun e => (more_iff k).mp e h), if_neg (by omega)]
    iintro ⟨-, Hb, Hs⟩ Hk
    iapply Hk
    isplitl [Hb] <;> iassumption
  · rw [dif_pos ((more_iff k).mpr h), if_pos (by omega)]
    iintro ⟨Hx, Hb, Hs⟩ Hk
    ihave Hx := (x_cut d (show base i + 32768 * (k.val + 1) ≤ base i + 32768 * (k.val + 1) + 16384 by omega)
      (show base i + 32768 * (k.val + 1) + 16384 ≤ base i + 262144 by omega)).1 $$ Hx
    icases Hx with ⟨Hx, Hrest⟩
    iapply (fetch d i (a := base i + 32768 * (k.val + 1)) (X := X) (off6_at i k)) $$ [Hx Hb Hs]
    · isplitl [Hx]; · iexact Hx
      isplitl [Hb] <;> iassumption
    iintro Hf
    iapply Hk
    isplitl [Hf] <;> iassumption

/-! ## One trip -/

/-- One trip over two chunks: the printed trip, its operands the kernel's own. -/
abbrev roundOf (i : grid0.Coords) (v4 v7 : Vec F S1x16 .f32) :=
  k0_t1_body (F := F) i xW (Memref.isWhole_whole _) tW (Memref.isWhole_whole _) oW (Memref.isWhole_whole _)
    xA (Memref.isWhole_whole _) xB (Memref.isWhole_whole _) oA (Memref.isWhole_whole _) oB (Memref.isWhole_whole _)
    tV (Memref.isWhole_whole _) cc0_scratch5 cc0_scratch6 cc0_scratch7 cc0_scratch8 cc0_scoped0
    v4 v7 (broadcast S16 0#32) (broadcast S16 2#32)

/-- What is held at the head of trip `n`. -/
def roundInv (d : Dev nD) (i : grid0.Coords) (t : Vec F S4x16 .f32) (X : Vec F S8388608 .f32) (fo : Buf (Elt F) (oLoc d))
    (O : CellTallies nD τ sig (HIx 1)) (W : Waits sig (HIx 1)) (n : ℕ) (_ : Unit) : sProp 𝕄 :=
  iprop((tV.view.loc (tile d i) ↦{fullShare} t)
    ∗ (xLoc d ↦[run (base i) (base i + 32768 * n)]{fullShare} (X : Buf (Elt F) (xLoc d))) ∗ inSide d i X n
    ∗ holdsAny d i xB ∗ semVal (tile d i, .dma cc0_scratch6.sem) 0
    ∗ (oLoc d ↦[run (base i + 32768 * n) (base i + 262144)]{fullShare} fo)
    ∗ (oLoc d ↦[run (base i) (edge i n 0)]{fullShare} (found t X : Buf (Elt F) (oLoc d)))
    ∗ outSide d i oA cc0_scratch7.sem t X 0 n ∗ outSide d i oB cc0_scratch8.sem t X 16384 n ∗ dues d i O W)

/-- One trip takes what is held at its head to what is held at the next. -/
theorem round (d : Dev nD) (i : grid0.Coords) {v4 v7 : Vec F S1x16 .f32} {t : Vec F S4x16 .f32} (h3 : RowOf t 3 v4) (h1 : RowOf t 1 v7)
    (X : Vec F S8388608 .f32) (fo : Buf (Elt F) (oLoc d)) (O : CellTallies nD τ sig (HIx 1)) (W : Waits sig (HIx 1))
    (k : Fin k0_t1_loop.trips) (u : Unit) :
    roundInv d i t X fo O W k.val u
      ⊢ wp frame (wpE (defs₀ (F := F)) 𝒱₀ (tile d i) none) Set.univ (roundOf i v4 v7 k u) (roundInv d i t X fo O W (k.val + 1)) := by
  have hk : k.val < 8 := k.isLt
  have hb := base_mod i
  unfold roundOf k0_t1_body
  simp only [Prog.lift, Prog.bind_op, Prog.bind_ret, Prog.pure_eq_ret]
  unfold roundInv
  rw [show inSide d i X k.val = _ from if_pos hk]
  iintro ⟨Ht, Hx, ⟨Hfa, Hxr⟩, HxB, Hs6, Hor, Ho, HoA, HoB, HO⟩
  -- the second chunk's fetch
  ihave Hxr := (x_cut d (show base i + 32768 * k.val + 16384 ≤ base i + 32768 * k.val + 16384 + 16384 by omega)
    (show base i + 32768 * k.val + 16384 + 16384 ≤ base i + 262144 by omega)).1 $$ Hxr
  icases Hxr with ⟨Hx2, Hxr⟩
  iapply (fetch d i (a := base i + 32768 * k.val + 16384) (X := X) (off2_at i k)) $$ [Hx2 HxB Hs6]
  · isplitl [Hx2]; · iexact Hx2
    isplitl [HxB] <;> iassumption
  iintro Hfb
  -- the first chunk's numbers arrive
  iapply (await d i (N := xA.view.dmaCredit) rfl) $$ [Hfa HO]
  · isplitl [Hfa] <;> iassumption
  unfold fetched
  iintro ⟨⟨HxA, Hx1⟩, Hs5, HO⟩
  ihave Hx := (x_cut d (show base i ≤ base i + 32768 * k.val by omega) (show base i + 32768 * k.val ≤ base i + 32768 * k.val + 16384 by omega)).2 $$ [Hx Hx1]
  · isplitl [Hx] <;> iassumption
  -- the first chunk of the trip before is delivered, and its buffer takes this trip's first chunk
  iapply (drain d i (s := 0) (n := k.val) (by omega) (later_iff k) rfl) $$ [Ho HoA HO]
  · isplitl [Ho]; · iexact Ho
    isplitl [HoA] <;> iassumption
  iintro ⟨Ho, HoA, Hs7, HO⟩
  iapply (chunk_loop d i h3 h1 (x := xA) (hx := Memref.isWhole_whole _) (o := oA) (ho := Memref.isWhole_whole _)) $$ [Ht HxA HoA]
  · isplitl [Ht]; · iexact Ht
    isplitl [HxA] <;> iassumption
  iintro ⟨Ht, HxA, HoA⟩
  ihave Hor := (o_cut d (show base i + 32768 * k.val ≤ base i + 32768 * k.val + 16384 by omega)
    (show base i + 32768 * k.val + 16384 ≤ base i + 262144 by omega)).1 $$ Hor
  icases Hor with ⟨Ho1, Hor⟩
  iapply (push d i (Memref.isWhole_whole _) (a := base i + 32768 * k.val) (t := t) (X := X) (off5_at i k) (by omega)) $$ [HoA Ho1 Hs7]
  · isplitl [HoA]; · iexact HoA
    isplitl [Ho1] <;> iassumption
  iintro HfA
  -- the next trip's first fetch
  rw [show base i + 32768 * k.val + 16384 + 16384 = base i + 32768 * (k.val + 1) by omega]
  iapply (refill d i k) $$ [Hxr HxA Hs5]
  · isplitl [Hxr]; · iexact Hxr
    isplitl [HxA] <;> iassumption
  iintro Hin
  -- the second chunk's numbers arrive
  iapply (await d i (N := xB.view.dmaCredit) rfl) $$ [Hfb HO]
  · isplitl [Hfb] <;> iassumption
  iintro ⟨⟨HxB, Hx2⟩, Hs6, HO⟩
  ihave Hx := (x_cut d (show base i ≤ base i + 32768 * k.val + 16384 by omega)
    (show base i + 32768 * k.val + 16384 ≤ base i + 32768 * (k.val + 1) by omega)).2 $$ [Hx Hx2]
  · isplitl [Hx] <;> iassumption
  -- the second chunk of the trip before is delivered, and its buffer takes this trip's second chunk
  iapply (drain d i (s := 16384) (n := k.val) (by omega) (later_iff k) rfl) $$ [Ho HoB HO]
  · isplitl [Ho]; · iexact Ho
    isplitl [HoB] <;> iassumption
  iintro ⟨Ho, HoB, Hs8, HO⟩
  iapply (chunk_loop d i h3 h1 (x := xB) (hx := Memref.isWhole_whole _) (o := oB) (ho := Memref.isWhole_whole _)) $$ [Ht HxB HoB]
  · isplitl [Ht]; · iexact Ht
    isplitl [HxB] <;> iassumption
  iintro ⟨Ht, HxB, HoB⟩
  ihave Hor := (o_cut d (show base i + 32768 * k.val + 16384 ≤ base i + 32768 * (k.val + 1) by omega)
    (show base i + 32768 * (k.val + 1) ≤ base i + 262144 by omega)).1 $$ Hor
  icases Hor with ⟨Ho2, Hor⟩
  rw [show base i + 32768 * (k.val + 1) = base i + 32768 * k.val + 16384 + 16384 by omega]
  iapply (push d i (Memref.isWhole_whole _) (a := base i + 32768 * k.val + 16384) (t := t) (X := X) (off9_at i k) (by omega)) $$ [HoB Ho2 Hs8]
  · isplitl [HoB]; · iexact HoB
    isplitl [Ho2] <;> iassumption
  iintro HfB
  rw [wp_ret]; imodintro
  rw [show outSide d i oA cc0_scratch7.sem t X 0 (k.val + 1)
        = Transfers.Flight EC (tile d i) (.dma cc0_scratch7.sem) none outCredit (pushed d i oA t X (base i + 32768 * k.val)) from rfl,
    show outSide d i oB cc0_scratch8.sem t X 16384 (k.val + 1)
        = Transfers.Flight EC (tile d i) (.dma cc0_scratch8.sem) none outCredit (pushed d i oB t X (base i + 32768 * k.val + 16384)) from rfl]
  rw [show edge i (k.val + 1) 0 = edge i k.val (16384 + 16384) by unfold edge; omega]
  isplitl [Ht]; · iexact Ht
  isplitl [Hx]; · iexact Hx
  isplitl [Hin]; · iexact Hin
  isplitl [HxB]; · iexact HxB
  isplitl [Hs6]; · iexact Hs6
  isplitl [Hor]; · iexact Hor
  isplitl [Ho]; · iexact Ho
  isplitl [HfA]; · iexact HfA
  isplitl [HfB]; · iexact HfB
  iexact HO

end Cert.Proof.Search

end
-- ==== Proof.Tile.lean ====
/-
  The kernel's body on one tile: the table copied in, its two deciding rows loaded, sixteen chunks searched, the last two
  pushes waited for. The tile takes its run of the numbers, a share of the table and its run of the result, and brings
  them back with the result's run at the places found.
-/
module

public import proofs.«01_k».proof.Proof.Round

@[expose] public section

noncomputable section

namespace Cert.Proof.Search

open Cert.KernelIdeal Cert.KernelIdeal.Gen

open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The table's deciding rows -/

/-- Row `r` of the table, loaded as a 1×16 vector, is its row. -/
theorem rowOf_load (t : Vec F S4x16 .f32) {r : ℕ} (hr : r < 4) {inb : ∀ a, (![r, 0] : Fin 2 → ℕ) a + S1x16.size a ≤ S4x16.size a} :
    RowOf t r (tV.view.readAt (Elt F) (Rect.unit (s := S4x16) ![r, 0] S1x16.size inb).toLoadRect t) := by
  intro l
  have hl : (l 0).val < 16 := (l 0).isLt
  have e : ∀ h, Shape.reshapeEquiv h l = (Fin.cons (⟨0, Nat.one_pos⟩ : Fin 1) l : S1x16.Idx) := fun h => Shape.reshapeEquiv_cons_one (d := ![16]) h l
  show t ((Rect.unit (s := S4x16) ![r, 0] S1x16.size inb).toLoadRect.idx (Shape.reshapeEquiv _ l)) = _
  rw [e]
  refine congrArg t (table_ext ?_ ?_)
  · rw [LoadRect.idx_apply]
    show r + 1 * 0 = r % 4
    omega
  · rw [LoadRect.idx_apply]
    show 0 + 1 * (l 0).val = (l 0).val % 16
    omega

/-! ## A tile's own buffers and semaphores -/

/-- The five semaphores the body uses are among the tile's own. -/
theorem ownSems (d : Dev nD) (i : grid0.Coords) :
    (ownSems0 (tile d i) : sProp 𝕄)
      = iprop(semVal (tile d i, .dma cc0_scoped0.sem) 0 ∗ semVal (tile d i, .dma cc0_scratch5.sem) 0 ∗ semVal (tile d i, .dma cc0_scratch6.sem) 0
          ∗ semVal (tile d i, .dma cc0_scratch7.sem) 0 ∗ semVal (tile d i, .dma cc0_scratch8.sem) 0
          ∗ bigSep ((((((ownCells (tile d i)).erase (tile d i, .dma cc0_scoped0.sem)).erase (tile d i, .dma cc0_scratch5.sem)).erase
              (tile d i, .dma cc0_scratch6.sem)).erase (tile d i, .dma cc0_scratch7.sem)).erase (tile d i, .dma cc0_scratch8.sem))
              fun g => semVal g 0) := by
  have hm : ∀ {s : SemLoc sig}, s.isScoped .scVector = true → ((tile d i, s) : GSem nD τ sig) ∈ ownCells (tile d i) :=
    fun h => mem_ownCells.mpr ⟨rfl, h⟩
  have hne : ∀ {s s' : SemLoc sig} {A : Finset (GSem nD τ sig)}, s ≠ s' → ((tile d i, s) : GSem nD τ sig) ∈ A → (tile d i, s) ∈ A.erase (tile d i, s') :=
    fun h hA => Finset.mem_erase.mpr ⟨fun e => h (Prod.mk.inj e).2, hA⟩
  unfold SparseCore.Cfg.ownSems0
  rw [SparseCore.bigSep_erase' (hm (s := .dma cc0_scoped0.sem) (by decide)),
    SparseCore.bigSep_erase' (hne (by decide) (hm (s := .dma cc0_scratch5.sem) (by decide))),
    SparseCore.bigSep_erase' (hne (by decide) (hne (by decide) (hm (s := .dma cc0_scratch6.sem) (by decide)))),
    SparseCore.bigSep_erase' (hne (by decide) (hne (by decide) (hne (by decide) (hm (s := .dma cc0_scratch7.sem) (by decide))))),
    SparseCore.bigSep_erase' (hne (by decide) (hne (by decide) (hne (by decide) (hne (by decide) (hm (s := .dma cc0_scratch8.sem) (by decide))))))]

/-- A buffer of the tile, as the device names it. -/
abbrev ref (i : grid0.Coords) (r : Ref sig .scVector) : DevRef τ sig := (Proc.scVector ((i 0).castLE hcore0) ((i 1).castLE hsub0)).devRef r

/-- The five scratch buffers are among the tile's own. -/
theorem ownScratch (d : Dev nD) (i : grid0.Coords) :
    (ownBufs (tile d i) : sProp 𝕄)
      = iprop((∃ f, (tile d i).loc cc0_scratch0 ↦{fullShare} f) ∗ (∃ f, (tile d i).loc cc0_scratch1 ↦{fullShare} f)
          ∗ (∃ f, (tile d i).loc cc0_scratch2 ↦{fullShare} f) ∗ (∃ f, (tile d i).loc cc0_scratch3 ↦{fullShare} f)
          ∗ (∃ f, (tile d i).loc cc0_scratch4 ↦{fullShare} f)
          ∗ bigSep ((((((ownRefs (τ := τ) (tile d i).2).erase (ref i cc0_scratch0)).erase (ref i cc0_scratch1)).erase (ref i cc0_scratch2)).erase
              (ref i cc0_scratch3)).erase (ref i cc0_scratch4))
              fun b => iprop(∃ f, ((d, b) : Loc nD τ sig) ↦{fullShare} f)) := by
  have hm : ∀ {r : Ref sig .scVector}, (ref i r).owner = _ → ref i r ∈ ownRefs (τ := τ) (tile d i).2 :=
    fun h => SparseCore.Cfg.mem_ownRefs_of_owner (p := (tile d i).2) h
  have hne : ∀ {r r' : Ref sig .scVector} {A : Finset (DevRef τ sig)}, r ≠ r' → ref i r ∈ A → ref i r ∈ A.erase (ref i r') :=
    fun h hA => Finset.mem_erase.mpr ⟨fun e => h (Proc.devRef_injective _ e), hA⟩
  unfold SparseCore.Cfg.ownBufs
  refine (SparseCore.bigSep_erase' (hm (r := cc0_scratch0) rfl)).trans ?_
  rw [SparseCore.bigSep_erase' (hne (by decide) (hm (r := cc0_scratch1) rfl)),
    SparseCore.bigSep_erase' (hne (by decide) (hne (by decide) (hm (r := cc0_scratch2) rfl))),
    SparseCore.bigSep_erase' (hne (by decide) (hne (by decide) (hne (by decide) (hm (r := cc0_scratch3) rfl)))),
    SparseCore.bigSep_erase' (hne (by decide) (hne (by decide) (hne (by decide) (hne (by decide) (hm (r := cc0_scratch4) rfl)))))]

/-! ## The body -/

/-- The first fetch's offset. -/
theorem off1_at (i : grid0.Coords) : k0_off1 i = ![base i + 32768 * 0] := k0_off1_eq i

/-- The body on tile `i`. -/
theorem tile_body (hF : (K (F := F)).Facts) (d : Dev nD) (i : grid0.Coords) (q : PosShare TreeShare) (t : Vec F S4x16 .f32) (X : Vec F S8388608 .f32)
    (fo : Buf (Elt F) (oLoc d)) (O : CellTallies nD τ sig (HIx 1)) (W : Waits sig (HIx 1)) (hO : ∀ g, O g none = 0) :
    iprop((levAts (K (F := F)).L (K (F := F)).lev : sProp 𝕄)
        ∗ ((xLoc d ↦[run (base i) (base i + 262144)]{fullShare} (X : Buf (Elt F) (xLoc d))) ∗ (tLoc d ↦{q} (t : Buf (Elt F) (tLoc d)))
          ∗ (oLoc d ↦[run (base i) (base i + 262144)]{fullShare} fo))
        ∗ scopedBufs (tile d i) ∗ scopedSems0 (tile d i) ∗ owes (tile d i) O W)
      ⊢ wp frame (wpE (defs₀ (F := F)) 𝒱₀ (tile d i) none) Set.univ
          (cc0__sc_body i xW (Memref.isWhole_whole _) tW (Memref.isWhole_whole _) oW (Memref.isWhole_whole _)
            xA (Memref.isWhole_whole _) xB (Memref.isWhole_whole _) oA (Memref.isWhole_whole _) oB (Memref.isWhole_whole _)
            tV (Memref.isWhole_whole _) cc0_scratch5 cc0_scratch6 cc0_scratch7 cc0_scratch8 cc0_scoped0)
          fun _ => iprop(((xLoc d ↦[run (base i) (base i + 262144)]{fullShare} (X : Buf (Elt F) (xLoc d))) ∗ (tLoc d ↦{q} (t : Buf (Elt F) (tLoc d)))
              ∗ (oLoc d ↦[run (base i) (base i + 262144)]{fullShare} (found t X : Buf (Elt F) (oLoc d))))
            ∗ scopedBufs (tile d i) ∗ scopedSems0 (tile d i)
            ∗ ∃ W', ⌜∀ p ∈ W', p ∈ W ∨ p.2 = none⌝ ∗ owes (tile d i) O W') := by
  simp only [cc0__sc_body_eq_skeleton]; unfold cc0__sc_body_skel
  simp only [Prog.lift, Prog.bind_op, Prog.bind_ret, Prog.pure_eq_ret]
  rw [(K (F := F)).scopedBufs_V hF d ((i 0).castLE hcore0) ((i 1).castLE hsub0),
    SparseCore.Cfg.scopedSems0_V (Val := Elt F) d ((i 0).castLE hcore0) ((i 1).castLE hsub0), ownSems, ownScratch]
  iintro ⟨Hlv, ⟨Hx, Ht, Ho⟩, ⟨⟨%f0, Hb0⟩, ⟨%f1, Hb1⟩, ⟨%f2, Hb2⟩, ⟨%f3, Hb3⟩, ⟨%f4, Hb4⟩, Hbufs⟩, ⟨Hs0, Hs5, Hs6, Hs7, Hs8, Hsems⟩, HO⟩
  ihave HO : dues d i O W $$ [Hlv HO]
  · unfold dues
    isplitl [Hlv]
    · iapply ((K (F := F)).mayWaits_none (thr := tile d i) hO) $$ Hlv
    iexists W
    isplitr
    · ipureintro; exact fun p hp => .inl hp
    · iexact HO
  -- the table in
  iapply (Transfers.wp_dmaLocal EC 𝒱₀ (tile d i) none (src := tW) (dst := tV) (Sd := Finset.univ) (q := q) (fs := t) (fd := f4)
    none tV.view.dmaCredit rfl (View.amount_pos tV.view (.dma cc0_scoped0.sem) (show 0 < S4x16.numel by decide)) (Finset.subset_univ _)) $$ [Ht Hb4 Hs0]
  · isplitl [Ht]
    · rw [(Memref.isWhole_whole main_v16_scv).set_eq_univ]; iexact Ht
    isplitl [Hb4] <;> iassumption
  iintro Hf
  iapply (await d i (N := tV.view.dmaCredit) rfl) $$ [Hf HO]
  · isplitl [Hf] <;> iassumption
  rw [(Memref.isWhole_whole main_v16_scv).set_eq_univ]
  iintro ⟨⟨Hb4, Ht⟩, Hs0, HO⟩
  have hw : tV.view.write (Elt F) f4 (ReadAs.same.apply (tW.view.read (Elt F) t)) Finset.univ = t := View.write_whole_univ cc0_scratch4 f4 t
  ihave HT := (Entails.of_eq (congrArg (fun f => (tV.view.loc (tile d i) ↦{fullShare} f : sProp 𝕄)) hw)) $$ Hb4
  -- its rows 3 and 1
  iapply (wp_load 𝒱₀ (tile d i) none Set.univ (m := tV) (S := Finset.univ) (Finset.subset_univ _)) $$ HT; iintro HT
  iapply (wp_load 𝒱₀ (tile d i) none Set.univ (m := tV) (S := Finset.univ) (Finset.subset_univ _)) $$ HT; iintro HT
  have h3 := rowOf_load t (r := 3) (by decide) (inb := inb_S4x16_S1x16_3_0)
  have h1 := rowOf_load t (r := 1) (by decide) (inb := inb_S4x16_S1x16_1_0)
  generalize tV.view.readAt (Elt F) (Rect.unit (s := S4x16) ![3, 0] S1x16.size inb_S4x16_S1x16_3_0).toLoadRect t = v4 at h3 ⊢
  generalize tV.view.readAt (Elt F) (Rect.unit (s := S4x16) ![1, 0] S1x16.size inb_S4x16_S1x16_1_0).toLoadRect t = v7 at h1 ⊢
  -- the first chunk's fetch
  ihave Hx := (x_cut d (show base i ≤ base i + 32768 * 0 by omega) (show base i + 32768 * 0 ≤ base i + 262144 by omega)).1 $$ Hx
  icases Hx with ⟨Hx0, Hx⟩
  ihave Hx := (x_cut d (show base i + 32768 * 0 ≤ base i + 32768 * 0 + 16384 by omega)
    (show base i + 32768 * 0 + 16384 ≤ base i + 262144 by omega)).1 $$ Hx
  icases Hx with ⟨Hx1, Hx⟩
  iapply (fetch d i (b := xA) (a := base i + 32768 * 0) (X := X) (off1_at i)) $$ [Hx1 Hb0 Hs5]
  · isplitl [Hx1]; · iexact Hx1
    isplitl [Hb0]
    · unfold holdsAny; iexists f0; iexact Hb0
    · iexact Hs5
  iintro Hfa
  ihave Ho := (o_cut d (show base i ≤ base i + 32768 * 0 by omega) (show base i + 32768 * 0 ≤ base i + 262144 by omega)).1 $$ Ho
  icases Ho with ⟨Ho0, Ho⟩
  iapply (Scf.wp_for_bind frame (wpE (defs₀ (F := F)) 𝒱₀ (tile d i) none) Set.univ _ _ _ k0_t1_ok ⟨⟩ (roundOf i v4 v7)
    (roundInv d i t X fo O W) (fun k u => round d i h3 h1 X fo O W k u)) $$ [HT Hx0 Hx Hfa Hb1 Hs6 Ho Ho0 Hb2 Hs7 Hb3 Hs8 HO]
  · unfold roundInv
    isplitl [HT]; · iexact HT
    isplitl [Hx0]; · iexact Hx0
    isplitl [Hx Hfa]
    · rw [show inSide d i X 0 = _ from if_pos (by omega)]
      isplitl [Hfa] <;> iassumption
    isplitl [Hb1]
    · unfold holdsAny; iexists f1; iexact Hb1
    isplitl [Hs6]; · iexact Hs6
    isplitl [Ho]; · iexact Ho
    isplitl [Ho0]
    · rw [show run (base i) (edge i 0 0) = ∅ from run_self _, show run (base i) (base i + 32768 * 0) = ∅ from run_self _]
      iapply (Entails.of_eq (pointsTo_congr fun y hy => absurd hy (Finset.notMem_empty y))) $$ Ho0
    isplitl [Hb2 Hs7]
    · unfold outSide holdsAny
      isplitl [Hb2]
      · iexists f2; iexact Hb2
      · iexact Hs7
    isplitl [Hb3 Hs8]
    · unfold outSide holdsAny
      isplitl [Hb3]
      · iexists f3; iexact Hb3
      · iexact Hs8
    · iexact HO
  iintro %u Hinv
  rw [show Scf.trips k0_t1_loop.lb k0_t1_loop.ub k0_t1_loop.st = 8 from by decide]
  unfold roundInv
  rw [show inSide d i X 8 = _ from if_neg (by omega),
    show outSide d i oA cc0_scratch7.sem t X 0 8
        = Transfers.Flight EC (tile d i) (.dma cc0_scratch7.sem) none outCredit (pushed d i oA t X (base i + 229376)) from rfl,
    show outSide d i oB cc0_scratch8.sem t X 16384 8
        = Transfers.Flight EC (tile d i) (.dma cc0_scratch8.sem) none outCredit (pushed d i oB t X (base i + 229376 + 16384)) from rfl,
    show edge i 8 0 = base i + 229376 from rfl]
  icases Hinv with ⟨HT, Hx, ⟨HxA, Hs5⟩, HxB, Hs6, -, Ho, HfA, HfB, HO⟩
  -- the last two pushes
  iapply (await d i (N := outCredit) rfl) $$ [HfA HO]
  · isplitl [HfA] <;> iassumption
  unfold pushed
  iintro ⟨⟨Hp, HoA⟩, Hs7, HO⟩
  ihave Ho := (o_cut d (show base i ≤ base i + 229376 by omega) (show base i + 229376 ≤ base i + 229376 + 16384 by omega)).2 $$ [Ho Hp]
  · isplitl [Ho] <;> iassumption
  iapply (await d i (N := outCredit) rfl) $$ [HfB HO]
  · isplitl [HfB] <;> iassumption
  iintro ⟨⟨Hp, HoB⟩, Hs8, HO⟩
  ihave Ho := (o_cut d (show base i ≤ base i + 229376 + 16384 by omega) (show base i + 229376 + 16384 ≤ base i + 229376 + 16384 + 16384 by omega)).2 $$ [Ho Hp]
  · isplitl [Ho] <;> iassumption
  rw [wp_ret]; imodintro
  unfold holdsAny dues
  icases HxA with ⟨%g0, HxA⟩
  icases HxB with ⟨%g1, HxB⟩
  icases HoA with ⟨%g2, HoA⟩
  icases HoB with ⟨%g3, HoB⟩
  icases HO with ⟨-, HO⟩
  isplitl [Hx Ht Ho]
  · isplitl [Hx]; · iexact Hx
    isplitl [Ht] <;> iassumption
  isplitl [HxA HxB HoA HoB HT Hbufs]
  · isplitl [HxA]
    · iexists g0; iexact HxA
    isplitl [HxB]
    · iexists g1; iexact HxB
    isplitl [HoA]
    · iexists g2; iexact HoA
    isplitl [HoB]
    · iexists g3; iexact HoB
    isplitl [HT]
    · iexists t; iexact HT
    · iexact Hbufs
  isplitl [Hs0 Hs5 Hs6 Hs7 Hs8 Hsems]
  · isplitl [Hs0]; · iexact Hs0
    isplitl [Hs5]; · iexact Hs5
    isplitl [Hs6]; · iexact Hs6
    isplitl [Hs7]; · iexact Hs7
    isplitl [Hs8] <;> iassumption
  iexact HO

end Cert.Proof.Search

end
-- ==== Proof.Table.lean ====
/-
  The table the host prepares for the kernel, as a function of the ten numbers it is given: the program's eighteen host
  operations as a list, what they leave in the table's array, and the table's rows entry by entry. Row 0 holds the ten
  numbers, then +∞; row 1 the number at index 3 throughout; row 2 is row 0 moved by one, +∞ last; row 3 the number at
  index 7 throughout.
-/
module

public import proofs.«01_k».proof.Proof.Setup

@[expose] public section

noncomputable section

namespace Cert.Proof.Search

open Cert.KernelIdeal Cert.KernelIdeal.Gen

open Idealize.ShloMosaic
open Idealize.ShloMosaic.StableHlo

variable {F : FTy → Type} [FloatOps F]

/-- The host's operations before the kernel, in order. -/
def hostOps : List (HloOp τ sig (Elt F)) :=
  [ nullary main_cst (constant S_ .f32 0x7F800000#32),
    unary main_cst main_v0 (broadcastInDim S16 ![] bcast_S_S16 : (⟨S_, .f32⟩ : BufTy).Contents (Elt F) → (⟨S16, .f32⟩ : BufTy).Contents (Elt F)),
    unary main_v0 main_v1 ((extractStridedSlice S6 ![0] · slices_S16_S6_0) : (⟨S16, .f32⟩ : BufTy).Contents (Elt F) → (⟨S6, .f32⟩ : BufTy).Contents (Elt F)),
    binary main_arg1 main_v1 main_v2 ((fun a b => concatenate S16 0 [⟨S10, a⟩, ⟨S6, b⟩] concatenates_S10_S6_S16_d0) : (⟨S10, .f32⟩ : BufTy).Contents (Elt F) → (⟨S6, .f32⟩ : BufTy).Contents (Elt F) → (⟨S16, .f32⟩ : BufTy).Contents (Elt F)),
    unary main_v2 main_v3 ((extractStridedSlice S1 ![3] · slices_S16_S1_3) : (⟨S16, .f32⟩ : BufTy).Contents (Elt F) → (⟨S1, .f32⟩ : BufTy).Contents (Elt F)),
    reshape main_v3 main_v4 (rfl : (.f32 : EltTy) = .f32) shapeCasts_S1_S_,
    unary main_v4 main_v5 (broadcastInDim S16 ![] bcast_S_S16 : (⟨S_, .f32⟩ : BufTy).Contents (Elt F) → (⟨S16, .f32⟩ : BufTy).Contents (Elt F)),
    unary main_v2 main_v6 ((extractStridedSlice S15 ![1] · slices_S16_S15_1) : (⟨S16, .f32⟩ : BufTy).Contents (Elt F) → (⟨S15, .f32⟩ : BufTy).Contents (Elt F)),
    unary main_v0 main_v7 ((extractStridedSlice S1 ![0] · slices_S16_S1_0) : (⟨S16, .f32⟩ : BufTy).Contents (Elt F) → (⟨S1, .f32⟩ : BufTy).Contents (Elt F)),
    binary main_v6 main_v7 main_v8 ((fun a b => concatenate S16 0 [⟨S15, a⟩, ⟨S1, b⟩] concatenates_S15_S1_S16_d0) : (⟨S15, .f32⟩ : BufTy).Contents (Elt F) → (⟨S1, .f32⟩ : BufTy).Contents (Elt F) → (⟨S16, .f32⟩ : BufTy).Contents (Elt F)),
    unary main_v2 main_v9 ((extractStridedSlice S1 ![7] · slices_S16_S1_7) : (⟨S16, .f32⟩ : BufTy).Contents (Elt F) → (⟨S1, .f32⟩ : BufTy).Contents (Elt F)),
    reshape main_v9 main_v10 (rfl : (.f32 : EltTy) = .f32) shapeCasts_S1_S_,
    unary main_v10 main_v11 (broadcastInDim S16 ![] bcast_S_S16 : (⟨S_, .f32⟩ : BufTy).Contents (Elt F) → (⟨S16, .f32⟩ : BufTy).Contents (Elt F)),
    unary main_v2 main_v12 (broadcastInDim S1x16 ![1] bcast_S16_S1x16_1 : (⟨S16, .f32⟩ : BufTy).Contents (Elt F) → (⟨S1x16, .f32⟩ : BufTy).Contents (Elt F)),
    unary main_v5 main_v13 (broadcastInDim S1x16 ![1] bcast_S16_S1x16_1 : (⟨S16, .f32⟩ : BufTy).Contents (Elt F) → (⟨S1x16, .f32⟩ : BufTy).Contents (Elt F)),
    unary main_v8 main_v14 (broadcastInDim S1x16 ![1] bcast_S16_S1x16_1 : (⟨S16, .f32⟩ : BufTy).Contents (Elt F) → (⟨S1x16, .f32⟩ : BufTy).Contents (Elt F)),
    unary main_v11 main_v15 (broadcastInDim S1x16 ![1] bcast_S16_S1x16_1 : (⟨S16, .f32⟩ : BufTy).Contents (Elt F) → (⟨S1x16, .f32⟩ : BufTy).Contents (Elt F)),
    nary ![main_v12, main_v13, main_v14, main_v15] main_v16 (fun u => (concatenate S4x16 0 [⟨S1x16, (u 0 : (⟨S1x16, .f32⟩ : BufTy).Contents (Elt F))⟩, ⟨S1x16, (u 1 : (⟨S1x16, .f32⟩ : BufTy).Contents (Elt F))⟩, ⟨S1x16, (u 2 : (⟨S1x16, .f32⟩ : BufTy).Contents (Elt F))⟩, ⟨S1x16, (u 3 : (⟨S1x16, .f32⟩ : BufTy).Contents (Elt F))⟩] concatenates_S1x16_S1x16_S1x16_S1x16_S4x16_d0 : (⟨S4x16, .f32⟩ : BufTy).Contents (Elt F))) ]

/-- The program: the host's operations, then the kernel's call. -/
theorem main_eq (d : Dev nD) : main (F := F) d = seq (hostOps (F := F)) >>= fun _ => sc.run d 0 >>= fun _ => pure ⟨⟩ := rfl

/-! ## The table as a function of the numbers -/

/-- +∞ sixteen times. -/
def tops : Vec F S16 .f32 := broadcastInDim S16 ![] bcast_S_S16 (constant S_ .f32 0x7F800000#32 : Vec F S_ .f32)

/-- The ten numbers, then +∞ six times. -/
def padded (s : Vec F S10 .f32) : Vec F S16 .f32 :=
  concatenate S16 0 [⟨S10, s⟩, ⟨S6, extractStridedSlice S6 ![0] tops slices_S16_S6_0⟩] concatenates_S10_S6_S16_d0

/-- The padded numbers moved by one, +∞ last. -/
def moved (s : Vec F S10 .f32) : Vec F S16 .f32 :=
  concatenate S16 0 [⟨S15, extractStridedSlice S15 ![1] (padded s) slices_S16_S15_1⟩, ⟨S1, extractStridedSlice S1 ![0] tops slices_S16_S1_0⟩]
    concatenates_S15_S1_S16_d0

/-- The number at index 3, sixteen times. -/
def fourth (s : Vec F S10 .f32) : Vec F S16 .f32 :=
  broadcastInDim S16 ![] bcast_S_S16 (shapeCast S_ (extractStridedSlice S1 ![3] (padded s) slices_S16_S1_3) shapeCasts_S1_S_)

/-- The number at index 7, sixteen times. -/
def eighth (s : Vec F S10 .f32) : Vec F S16 .f32 :=
  broadcastInDim S16 ![] bcast_S_S16 (shapeCast S_ (extractStridedSlice S1 ![7] (padded s) slices_S16_S1_7) shapeCasts_S1_S_)

/-- A vector as a table of one row. -/
def asRow (v : Vec F S16 .f32) : Vec F S1x16 .f32 := broadcastInDim S1x16 ![1] bcast_S16_S1x16_1 v

/-- The table for the ten numbers `s`. -/
def table (s : Vec F S10 .f32) : Vec F S4x16 .f32 :=
  concatenate S4x16 0 [⟨S1x16, asRow (padded s)⟩, ⟨S1x16, asRow (fourth s)⟩, ⟨S1x16, asRow (moved s)⟩, ⟨S1x16, asRow (eighth s)⟩]
    concatenates_S1x16_S1x16_S1x16_S1x16_S4x16_d0

/-- After the host's operations the table's array holds the table for the numbers given. -/
theorem after_table (V : Valuation τ sig (Elt F)) :
    after (hostOps (F := F)) V (Proc.devRef .tc main_v16) = (table (V (Proc.devRef .tc main_arg1) : Vec F S10 .f32) : Vec F S4x16 .f32) := by
  unfold hostOps
  after_results
  rfl

/-- The host's operations leave an array they do not write as it was. -/
theorem after_kept (V : Valuation τ sig (Elt F)) :
    after (hostOps (F := F)) V (Proc.devRef .tc main_arg0) = V (Proc.devRef .tc main_arg0)
      ∧ after (hostOps (F := F)) V (Proc.devRef .tc main_arg1) = V (Proc.devRef .tc main_arg1)
      ∧ after (hostOps (F := F)) V (Proc.devRef .tc main_v17) = V (Proc.devRef .tc main_v17) := by
  refine ⟨?_, ?_, ?_⟩ <;>
  · unfold hostOps
    after_results

end Cert.Proof.Search

end
-- ==== Proof.Launch.lean ====
/-
  The kernel's launch: what each tile takes and brings back, the whole arrays dealt to the 2×16 tiles and joined again,
  the host's operations and the call on the TensorCore, and the program's run: the result at the places found in the
  table the host prepared, the two arguments as they were, every semaphore at zero.
-/
module

public import proofs.«01_k».proof.Proof.Tile
public import proofs.«01_k».proof.Proof.Table
public import Idealize.ShloMosaic.Lib.Pipeline.Frame

@[expose] public section

noncomputable section

namespace Cert.Proof.Search

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split wp_seq after)
open Idealize.ShloMosaic.Tactic

variable {F : FTy → Type} [FloatOps F]

local notation "𝕄" => MT nD τ sig (HIx 1) (Elt F) ℕ UU ℕ

/-! ## What a tile takes and brings back -/

variable (m : (ℓ : Loc nD τ sig) → Buf (Elt F) ℓ) (ρ : Dev nD → PrngReg)

/-- The array of the ten numbers. -/
abbrev sLoc (d : Dev nD) : Loc nD τ sig := (SparseCore.T d).loc main_arg1

/-- The table for the numbers in memory at the launch. -/
def tabled (d : Dev nD) : Vec F S4x16 .f32 := table (m (sLoc d) : Vec F S10 .f32)

/-- What the kernel leaves in its result. -/
def result (d : Dev nD) : IVec S8388608 32 := found (tabled m d) (m (xLoc d) : Vec F S8388608 .f32)

/-- The tile on subcore `s` of SparseCore `c`. -/
def coords (c : Fin (grid0.bound 0)) (s : Fin (grid0.bound 1)) : grid0.Coords :=
  fun | 0 => c | 1 => s | ⟨_ + 2, h⟩ => absurd h (Nat.not_lt.2 (Nat.le_add_left _ _))

/-- The share of the table a tile reads through. -/
def share (i : grid0.Coords) : PosShare TreeShare :=
  Transfers.shareTok (Transfers.shareTok fullShare (grid0.bound 0) (i 0)) (grid0.bound 1) (i 1)

/-- The indices tile `i` works on. -/
def part (i : grid0.Coords) : Finset S8388608.Idx := run (base i) (base i + 262144)

/-- A tile's run of the numbers, its share of the table, and its run of the result at contents `f`. -/
def hand (d : Dev nD) (f : Buf (Elt F) (oLoc d)) (i : grid0.Coords) : sProp 𝕄 :=
  iprop((xLoc d ↦[part i]{fullShare} m (xLoc d)) ∗ (tLoc d ↦{share i} (tabled m d : Buf (Elt F) (tLoc d))) ∗ (oLoc d ↦[part i]{fullShare} f))

instance hand_storable (d : Dev nD) (f : Buf (Elt F) (oLoc d)) (i : grid0.Coords) : BI.Storable (upEmb : UEmb _ 𝕄) (hand m d f i) := by
  unfold hand; infer_instance

theorem nCore_zero : (K (F := F)).nCore 0 = grid0.bound 0 := rfl
theorem nSub_zero : (K (F := F)).nSub 0 = grid0.bound 1 := rfl

/-- What a SparseCore's sixteen tiles have in hand together. -/
def hands (d : Dev nD) (f : Buf (Elt F) (oLoc d)) (c : Fin (grid0.bound 0)) : sProp 𝕄 :=
  bigSep Finset.univ fun s : Fin (grid0.bound 1) => hand m d f (coords c s)

instance hands_storable (d : Dev nD) (f : Buf (Elt F) (oLoc d)) (c : Fin (grid0.bound 0)) : BI.Storable (upEmb : UEmb _ 𝕄) (hands m d f c) := by
  unfold hands; infer_instance

/-- The call's payloads: the result's run at its launch contents going out, at the places found coming back. -/
def P : (K (F := F)).Pay (nD := nD) (Val := Elt F) (Name := ℕ) (U := UU) where
  st := fun q d c => match q with | 0 => hands m d (m (oLoc d)) (Fin.cast nCore_zero c)
  dn := fun q d c => match q with | 0 => hands m d (result m d) (Fin.cast nCore_zero c)
  go := fun q d c i => match q with | 0 => hand m d (m (oLoc d)) (coords (Fin.cast nCore_zero c) (Fin.cast nSub_zero i))
  td := fun q d c i => match q with | 0 => hand m d (result m d) (coords (Fin.cast nCore_zero c) (Fin.cast nSub_zero i))
  x := fun _ _ => iprop(emp)

instance P_storable : (P (F := F) m).IsStorable where
  st q d c := match q with
    | 0 => hands_storable m d (m (oLoc d)) (Fin.cast nCore_zero c)
  dn q d c := match q with
    | 0 => hands_storable m d (result m d) (Fin.cast nCore_zero c)
  go q d c i := match q with
    | 0 => hand_storable m d (m (oLoc d)) (coords (Fin.cast nCore_zero c) (Fin.cast nSub_zero i))
  td q d c i := match q with
    | 0 => hand_storable m d (result m d) (coords (Fin.cast nCore_zero c) (Fin.cast nSub_zero i))

/-! ## The tile's obligation -/

/-- The kernel's entry for a vector subcore is the body on that subcore's tile. -/
theorem defs₀_vector (c : Fin τ.nSC) (s : Fin τ.nSub) :
    defs₀ (F := F) (.scVector c s) 0 ()
      = SparseCore.onTile hcore0 hsub0 (fun c s => cc0__sc_body (coords c s) xW (Memref.isWhole_whole _) tW (Memref.isWhole_whole _) oW (Memref.isWhole_whole _)
            xA (Memref.isWhole_whole _) xB (Memref.isWhole_whole _) oA (Memref.isWhole_whole _) oB (Memref.isWhole_whole _)
            tV (Memref.isWhole_whole _) cc0_scratch5 cc0_scratch6 cc0_scratch7 cc0_scratch8 cc0_scoped0) ⟨⟩ c s := rfl

/-- A wait recorded against nothing is also recorded against nothing or the call. -/
theorem widen {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  refine sep_mono_right (sep_mono_right (sep_mono_right ?_))
  iintro ⟨%W', %hW, HO⟩
  iexists W'
  isplitr
  · ipureintro; exact fun p hp => (hW p hp).imp_right .inl
  · iexact HO

/-- Each tile runs the kernel's body from what it takes to what it brings back. -/
theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte]
  let j := coords ⟨_, hc.1⟩ ⟨_, hc.2⟩
  exact (sep_mono_right sep_elim_right).trans ((tile_body facts d j (share j) (tabled m d) (m (xLoc d)) (m (oLoc d)) O W hO).trans (wp_mono frame _ _ fun _ => widen (q := 0)))

/-! ## The arrays dealt to the tiles -/

/-- The tiles as pairs of a SparseCore and a subcore. -/
abbrev Tiles : Type := Fin (grid0.bound 0) × Fin (grid0.bound 1)

/-- Two tiles work on no index in common. -/
theorem part_disjoint (a b : Tiles) (h : a ≠ b) : Disjoint (part (coords a.1 a.2)) (part (coords b.1 b.2)) := by
  have h0 : a.1.val < 2 := a.1.isLt
  have h1 : b.1.val < 2 := b.1.isLt
  have hne : ¬ (a.1.val = b.1.val ∧ a.2.val = b.2.val) := fun e => h (Prod.ext (Fin.ext e.1) (Fin.ext e.2))
  refine run_disjoint ?_
  show 524288 * a.2.val + 262144 * a.1.val + 262144 ≤ 524288 * b.2.val + 262144 * b.1.val
    ∨ 524288 * b.2.val + 262144 * b.1.val + 262144 ≤ 524288 * a.2.val + 262144 * a.1.val
  omega

/-- Every index is some tile's. -/
theorem part_cover : (Finset.univ : Finset Tiles).biUnion (fun a => part (coords a.1 a.2)) = Finset.univ := by
  refine Finset.eq_univ_of_forall fun j => ?_
  have hj : (j 0).val < 8388608 := (j 0).isLt
  refine Finset.mem_biUnion.mpr ⟨(⟨(j 0).val / 262144 % 2, Nat.mod_lt _ (by decide)⟩, ⟨(j 0).val / 524288, ?_⟩), Finset.mem_univ _, mem_run.mpr ?_⟩
  · show (j 0).val / 524288 < 16
    omega
  · show 524288 * ((j 0).val / 524288) + 262144 * ((j 0).val / 262144 % 2) ≤ (j 0).val
      ∧ (j 0).val < 524288 * ((j 0).val / 524288) + 262144 * ((j 0).val / 262144 % 2) + 262144
    omega

/-- The numbers held whole are held by the tiles' runs. -/
theorem x_deal (d : Dev nD) (f : Buf (Elt F) (xLoc d)) :
    (xLoc d ↦{fullShare} f : sProp 𝕄)
      = bigSep Finset.univ fun c => bigSep Finset.univ fun s => xLoc d ↦[part (coords c s)]{fullShare} f := by
  rw [← bigSep_univ_prod (fun a : Tiles => (xLoc d ↦[part (coords a.1 a.2)]{fullShare} f : sProp 𝕄)),
    ← pointsTo_biUnion Finset.univ (ℓ := xLoc d) (fun a : Tiles => part (coords a.1 a.2)) (fun a _ b _ h => part_disjoint a b h), part_cover]

/-- The result held whole is held by the tiles' runs. -/
theorem o_deal (d : Dev nD) (f : Buf (Elt F) (oLoc d)) :
    (oLoc d ↦{fullShare} f : sProp 𝕄)
      = bigSep Finset.univ fun c => bigSep Finset.univ fun s => oLoc d ↦[part (coords c s)]{fullShare} f := by
  rw [← bigSep_univ_prod (fun a : Tiles => (oLoc d ↦[part (coords a.1 a.2)]{fullShare} f : sProp 𝕄)),
    ← pointsTo_biUnion Finset.univ (ℓ := oLoc d) (fun a : Tiles => part (coords a.1 a.2)) (fun a _ b _ h => part_disjoint a b h), part_cover]

/-- The table held whole gives every tile its share. -/
theorem t_deal (d : Dev nD) (f : Buf (Elt F) (tLoc d)) :
    (tLoc d ↦{fullShare} f : sProp 𝕄) ⊢ bigSep Finset.univ fun c => bigSep Finset.univ fun s => tLoc d ↦{share (coords c s)} f :=
  ((Transfers.pointsTo_toks_split fullShare (grid0.bound 0)).trans sep_elim_right).trans
    (bigSep_mono fun _ _ => (Transfers.pointsTo_toks_split _ (grid0.bound 1)).trans sep_elim_right)

/-- What all tiles have in hand: their runs of the numbers, their shares of the table, their runs of the result. -/
theorem hands_eq (d : Dev nD) (f : Buf (Elt F) (oLoc d)) :
    (bigSep Finset.univ fun c => hands m d f c)
      = (iprop((xLoc d ↦{fullShare} m (xLoc d))
          ∗ (bigSep Finset.univ fun c => bigSep Finset.univ fun s => tLoc d ↦{share (coords c s)} (tabled m d : Buf (Elt F) (tLoc d)))
          ∗ (oLoc d ↦{fullShare} f)) : sProp 𝕄) := by
  rw [x_deal, o_deal]
  unfold hands hand
  simp only [bigSep_sep']

/-- What the call takes from the TensorCore. -/
theorem st_eq (d : Dev nD) : (bigSep Finset.univ fun c : Fin ((K (F := F)).nCore 0) => (P m).st 0 d c)
    = (iprop((xLoc d ↦{fullShare} m (xLoc d))
        ∗ (bigSep Finset.univ fun c => bigSep Finset.univ fun s => tLoc d ↦{share (coords c s)} (tabled m d : Buf (Elt F) (tLoc d)))
        ∗ (oLoc d ↦{fullShare} m (oLoc d))) : sProp 𝕄) := hands_eq m d (m (oLoc d))

/-- What the call gives back. -/
theorem dn_eq (d : Dev nD) : (bigSep Finset.univ fun c : Fin ((K (F := F)).nCore 0) => (P m).dn 0 d c)
    = (iprop((xLoc d ↦{fullShare} m (xLoc d))
        ∗ (bigSep Finset.univ fun c => bigSep Finset.univ fun s => tLoc d ↦{share (coords c s)} (tabled m d : Buf (Elt F) (tLoc d)))
        ∗ (oLoc d ↦{fullShare} (result m d : Buf (Elt F) (oLoc d)))) : sProp 𝕄) := hands_eq m d (result m d)

/-- A SparseCore's payload is its tiles' together. -/
theorem vecSplit : (K (F := F)).VecSplit' (P m) 0 := by
  intro d c
  show hands m d (m (oLoc d)) (Fin.cast nCore_zero c) ⊢ |={Set.univ}=> iprop(
      hands m d (m (oLoc d)) (Fin.cast nCore_zero c) ∗ (hands m d (result m d) (Fin.cast nCore_zero c) -∗ hands m d (result m d) (Fin.cast nCore_zero c)))
  iintro H
  imodintro
  isplitl [H]; · iexact H
  iintro H
  iexact H

/-! ## The launch's ghost state -/

/-- The handshakes' rounds; nothing of the kernel's own. -/
def u₀ : UU := (initOf (K (F := F)).hsCells (K (F := F)).hsToks, 1)

/-- Nothing, any number of times, is nothing. -/
theorem nothings {I : Type} (s : Finset I) : (bigSep s fun _ => iprop(emp)) = (iprop(emp) : sProp 𝕄) := bigSep_emp_const s

/-- Which the launch hands out. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [nothings]; iempintro
  rw [show (bigSep Finset.univ fun thr : Thread nD τ => bigSep Finset.univ fun q : Fin 1 => (P m).x q thr) = (iprop(emp) : sProp 𝕄) from
    (bigSep_congr fun _ _ => nothings _).trans (nothings _)]
  iempintro

/-! ## The program on the TensorCore -/

/-- The memory of a device at the launch. -/
def atLaunch (d : Dev nD) : Valuation τ sig (Elt F) := fun b => m (d, b)

/-- The unscoped arrays other than the numbers, the table, the result and the ten numbers. -/
def others : Finset (DevRef τ sig) :=
  ((((Pipeline.ucRefs τ sig).erase (Proc.devRef .tc main_arg0)).erase (Proc.devRef .tc main_v16)).erase (Proc.devRef .tc main_v17)).erase (Proc.devRef .tc main_arg1)

/-- The unscoped arrays: these four and the others. -/
theorem held_four (d : Dev nD) (W : Valuation τ sig (Elt F)) :
    (held (SparseCore.T d) (Pipeline.ucRefs τ sig) W : sProp 𝕄)
      = iprop((xLoc d ↦{fullShare} W (Proc.devRef .tc main_arg0)) ∗ (tLoc d ↦{fullShare} W (Proc.devRef .tc main_v16))
          ∗ (oLoc d ↦{fullShare} W (Proc.devRef .tc main_v17)) ∗ (sLoc d ↦{fullShare} W (Proc.devRef .tc main_arg1)) ∗ held (SparseCore.T d) others W) := by
  have hm : ∀ r : Ref sig .tc, r.isScoped = false → Proc.devRef (τ := τ) .tc r ∈ Pipeline.ucRefs τ sig := fun r h =>
    Finset.mem_filter.mpr ⟨StableHlo.devRef_mem_tcRefs r, by rw [show (Proc.devRef (τ := τ) .tc r).isScoped = r.isScoped from rfl, h]; decide⟩
  have hne : ∀ {r r' : Ref sig .tc} {A : Finset (DevRef τ sig)}, r ≠ r' → Proc.devRef (τ := τ) .tc r ∈ A → Proc.devRef (τ := τ) .tc r ∈ A.erase (Proc.devRef .tc r') :=
    fun h hA => Finset.mem_erase.mpr ⟨StableHlo.devRef_ne_of_ne h, hA⟩
  unfold held others
  rw [SparseCore.bigSep_erase' (hm main_arg0 (by decide)), SparseCore.bigSep_erase' (hne (by decide) (hm main_v16 (by decide))),
    SparseCore.bigSep_erase' (hne (by decide) (hne (by decide) (hm main_v17 (by decide)))),
    SparseCore.bigSep_erase' (hne (by decide) (hne (by decide) (hne (by decide) (hm main_arg1 (by decide)))))]

/-- What the program leaves: the two arguments as they were, the result at the places found. -/
def FIN (d : Dev nD) : sProp 𝕄 :=
  iprop((xLoc d ↦{fullShare} m (xLoc d)) ∗ (sLoc d ↦{fullShare} m (sLoc d)) ∗ (oLoc d ↦{fullShare} (result m d : Buf (Elt F) (oLoc d))))

/-- The host's operations touch unscoped arrays only. -/
theorem hostOps_bufs : ∀ op ∈ hostOps (F := F), op.bufs ⊆ Pipeline.ucRefs τ sig := by
  intro op h
  refine Pipeline.sub_ucRefs op ?_
  unfold hostOps at h
  simp only [List.mem_cons, List.not_mem_nil, or_false] at h
  rcases h with h | h | h | h | h | h | h | h | h | h | h | h | h | h | h | h | h | h <;> subst h <;> simp

/-- The host's operations determine their results. -/
theorem hostOps_fresh : ∀ op ∈ hostOps (F := F), op.fresh = ∅ := by
  intro op h
  unfold hostOps at h
  simp only [List.mem_cons, List.not_mem_nil, or_false] at h
  rcases h with h | h | h | h | h | h | h | h | h | h | h | h | h | h | h | h | h | h <;> subst h <;> rfl

/-- The program on device `d`'s TensorCore: the table prepared, the arrays dealt to the tiles and joined. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (Pipeline.ucRefs τ sig) (atLaunch m d) from
    Pipeline.unscopedBufs_held d (atLaunch m d), main_eq]
  iintro ⟨#Hctx, Hst, ⟨Hb, Hheld, Hts, -⟩, -⟩
  iapply (wp_seq 𝒱 none Set.univ d (Pipeline.ucRefs τ sig) (fun _ => sc.run d 0 >>= fun _ => pure ⟨⟩) (hostOps (F := F)) hostOps_bufs hostOps_fresh (atLaunch m d)) $$ [Hb Hheld]
  · isplitl [Hb] <;> iassumption
  iintro ⟨Hb, Hheld⟩
  rw [wp_bind]
  ihave Hh := (Entails.of_eq (held_four (F := F) d _)) $$ Hheld
  rw [after_table, (after_kept (atLaunch m d)).1, (after_kept (atLaunch m d)).2.1, (after_kept (atLaunch m d)).2.2]
  icases Hh with ⟨Hx, Ht, Ho, Hs, -⟩
  ihave Ht := (t_deal (F := F) d _) $$ Ht
  iapply ((K (F := F)).wp_run (D (F := F)) 𝒱 (EH := EH) (P := P m) κ d 0) $$ [Hst Hx Ht Ho Hs Hb Hts]
  isplitr; · iexact Hctx
  isplitl [Hst]; · iexact Hst
  isplitl [Hx Ht Ho]
  · rw [st_eq]
    isplitl [Hx]; · iexact Hx
    isplitl [Ht]; · iexact Ht
    iexact Ho
  iintro ⟨Hst, Hdn⟩
  ihave Hdn := (Entails.of_eq (dn_eq m d)) $$ Hdn
  icases Hdn with ⟨Hx, -, Ho⟩
  rw [wp_pure]; imodintro
  isplitl [Hst]; · iexact Hst
  isplitr [Hb Hts]
  · unfold FIN
    isplitl [Hx]; · iexact Hx
    isplitl [Hs]; · iexact Hs
    iexact Ho
  isplitl [Hb] <;> iassumption

/-! ## The run -/

/-- What the final memory of device `d` holds. -/
def Ends (d : Dev nD) (mem : (ℓ : Loc nD τ sig) → Buf (Elt F) ℓ) : Prop :=
  mem (oLoc d) = (result m d : Buf (Elt F) (oLoc d)) ∧ mem (xLoc d) = m (xLoc d) ∧ mem (sLoc d) = m (sLoc d)

/-- What the program leaves, read in the final memory. -/
theorem hfin (d : Dev nD) (s' : Phys nD τ sig (Elt F)) : iprop(FIN m d ∗ SI s') ⊢ (⌜Ends m d s'.mem.mem⌝ : sProp 𝕄) := by
  unfold FIN
  iintro ⟨⟨Hx, Hs, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := sLoc d) (I := Finset.univ) (q := fullShare) (f := m (sLoc d)))) $$ [HSI Hs]
  · isplitl [HSI] <;> iassumption
  icases H with ⟨%h2, HSI, -⟩
  ihave H := (SI_pointsTo_agree (st := s') (ℓ := oLoc d) (I := Finset.univ) (q := fullShare) (f := (result m d : Buf (Elt F) (oLoc d)))) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-- The program runs from any memory: its result holds the places found in the table it prepared, its arguments are as
    they were, and every semaphore is at zero. -/
theorem run_main [∀ e, Nonempty (Elt F e)] :
    θ_run (Cert.KernelIdeal.defs (F := F)) (Cert.KernelIdeal.threads (F := F)) ⟨m, fun _ => 0, ρ⟩
      fun r => (∀ d : Dev nD, Ends m d r.2.mem) ∧ r.2.sem = fun _ => 0 :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fun d s' => Ends m d s'.mem.mem) (hfin m)
    (fun r => (∀ d : Dev nD, Ends m d r.2.mem) ∧ r.2.sem = fun _ => 0) (fun _ h hz => ⟨h, hz⟩)

end Cert.Proof.Search

end
-- ==== Proof.Order.lean ====
/-
  The place the kernel finds, over the extended reals: the table's entries as the ten numbers and +∞, and, for ascending
  numbers, the place found as the count of the numbers below `x`.
-/
module

public import proofs.«01_k».proof.Proof.Table
public import Idealize.ShloMosaic.PureOps.Ideal
public import Idealize.ShloMosaic.Lib.Pointwise.SelectCore

@[expose] public section

noncomputable section

namespace Cert.Proof.Search

open Cert.KernelIdeal Cert.KernelIdeal.Gen

open Idealize.ShloMosaic

/-! ## The table's entries -/

/-- The ten numbers by position, +∞ from position 10 on. -/
def number (s : Vec Ideal S10 .f32) (i : ℕ) : EReal := if h : i < 10 then s (ix1 ⟨i, h⟩) else ⊤

/-- The printed pattern of +∞ is the top of the extended reals, wherever it is read. -/
theorem tops_apply (j : S16.Idx) : (tops (F := Ideal) j : EReal) = ⊤ := by
  show Ideal.ofBits .f32 0x7F800000#32 = ⊤
  simp [Ideal.ofBits, Ideal.ieee]

/-- The padded numbers, entry by entry. -/
theorem padded_apply (s : Vec Ideal S10 .f32) (j : S16.Idx) : (padded s j : EReal) = number s (j 0).val := by
  have hj : (j 0).val < 16 := (j 0).isLt
  unfold padded number
  by_cases h : (j 0).val < 10
  · rw [dif_pos h]
    exact concatenate_pair_apply_left (s₁ := S10) (s₂ := S6) 0 _ _ _ j rfl (ix1 ⟨(j 0).val, h⟩) fun b => match b with | ⟨0, _⟩ => rfl
  · rw [dif_neg h, ← tops_apply (ix1 ⟨(j 0).val - 10, by omega⟩)]
    refine (concatenate_pair_apply_right (s₁ := S10) (s₂ := S6) 0 _ _ _ j rfl rfl (ix1 ⟨(j 0).val - 10, by omega⟩) (fun b hb => ?_) ?_).trans ?_
    · match b with | ⟨0, _⟩ => exact absurd rfl hb
    · show (j 0).val - 10 + 10 = (j 0).val
      omega
    · exact extractStridedSlice_apply _ _ _ _ _ fun a => match a with | ⟨0, _⟩ => (Nat.zero_add _).symm

/-- The moved numbers, entry by entry. -/
theorem moved_apply (s : Vec Ideal S10 .f32) (j : S16.Idx) : (moved s j : EReal) = number s ((j 0).val + 1) := by
  have hj : (j 0).val < 16 := (j 0).isLt
  unfold moved
  by_cases h : (j 0).val < 15
  · refine (concatenate_pair_apply_left (s₁ := S15) (s₂ := S1) 0 _ _ _ j rfl (ix1 ⟨(j 0).val, h⟩) fun b => match b with | ⟨0, _⟩ => rfl).trans ?_
    refine (extractStridedSlice_apply _ _ _ _ (ix1 ⟨(j 0).val + 1, by omega⟩) fun a => match a with | ⟨0, _⟩ => Nat.add_comm _ _).trans ?_
    exact padded_apply s _
  · refine (concatenate_pair_apply_right (s₁ := S15) (s₂ := S1) 0 _ _ _ j rfl rfl (ix1 ⟨(j 0).val - 15, by omega⟩) (fun b hb => ?_) ?_).trans ?_
    · match b with | ⟨0, _⟩ => exact absurd rfl hb
    · show (j 0).val - 15 + 15 = (j 0).val
      omega
    · refine (extractStridedSlice_apply _ _ _ _ (ix1 ⟨(j 0).val - 15, by omega⟩) fun a => match a with | ⟨0, _⟩ => (Nat.zero_add _).symm).trans ?_
      rw [number, dif_neg (by omega)]
      exact tops_apply _

/-- A one-entry vector made a scalar keeps its entry. -/
theorem only_apply (v : Vec Ideal S1 .f32) (j : S_.Idx) : shapeCast S_ v shapeCasts_S1_S_ j = v (ix1 0) :=
  congrArg v (funext fun a => match a with | ⟨0, _⟩ => Subsingleton.elim (α := Fin 1) _ _)

/-- The number at index 3, wherever it is read. -/
theorem fourth_apply (s : Vec Ideal S10 .f32) (j : S16.Idx) : (fourth s j : EReal) = number s 3 := by
  refine (only_apply _ _).trans ?_
  refine (extractStridedSlice_apply _ _ _ _ (ix1 3) fun a => match a with | ⟨0, _⟩ => rfl).trans ?_
  exact padded_apply s _

/-- The number at index 7, wherever it is read. -/
theorem eighth_apply (s : Vec Ideal S10 .f32) (j : S16.Idx) : (eighth s j : EReal) = number s 7 := by
  refine (only_apply _ _).trans ?_
  refine (extractStridedSlice_apply _ _ _ _ (ix1 7) fun a => match a with | ⟨0, _⟩ => rfl).trans ?_
  exact padded_apply s _

/-- A vector made a table of one row keeps its entries. -/
theorem asRow_apply (v : Vec Ideal S16 .f32) (j : S1x16.Idx) : asRow v j = v (ix1 (j 1)) :=
  broadcastInDim_apply _ _ _ _ _ fun a => match a with | ⟨0, _⟩ => rfl

/-- A table made of four rows, entry by entry. -/
theorem rows_apply (v : Fin 4 → Vec Ideal S16 .f32) (r : Fin 4) (c : ℕ) :
    concatenate S4x16 0 [⟨S1x16, asRow (v 0)⟩, ⟨S1x16, asRow (v 1)⟩, ⟨S1x16, asRow (v 2)⟩, ⟨S1x16, asRow (v 3)⟩]
        concatenates_S1x16_S1x16_S1x16_S1x16_S4x16_d0 (cell r.val c)
      = v r (ix1 ⟨c % 16, Nat.mod_lt _ (by decide)⟩) := by
  refine (concatenate_apply_piece (t := S4x16) 0 [⟨S1x16, asRow (v 0)⟩, ⟨S1x16, asRow (v 1)⟩, ⟨S1x16, asRow (v 2)⟩, ⟨S1x16, asRow (v 3)⟩]
    _ (cell r.val c) r.val r.isLt S1x16 _ ?_ rfl r.val ?_ (ix2 0 ⟨c % 16, Nat.mod_lt _ (by decide)⟩) (fun b hb => ?_) ?_).trans
    (asRow_apply (v r) _)
  · fin_cases r <;> rfl
  · fin_cases r <;> rfl
  · match b with
    | ⟨0, _⟩ => exact absurd rfl hb
    | ⟨1, _⟩ => rfl
  · exact (Nat.mod_eq_of_lt r.isLt).symm

/-- The table's rows, entry by entry. -/
theorem table_apply (s : Vec Ideal S10 .f32) (c : ℕ) :
    (table s (cell 0 c) : EReal) = number s (c % 16) ∧ (table s (cell 1 c) : EReal) = number s 3
      ∧ (table s (cell 2 c) : EReal) = number s (c % 16 + 1) ∧ (table s (cell 3 c) : EReal) = number s 7 :=
  have h := fun r => rows_apply ![padded s, fourth s, moved s, eighth s] r c
  ⟨(h 0).trans (padded_apply s _), (h 1).trans (fourth_apply s _), (h 2).trans (moved_apply s _), (h 3).trans (eighth_apply s _)⟩

/-! ## The count -/

/-- `k` of the ten numbers lie below `x`, the first `k`. -/
def Splits (s : Vec Ideal S10 .f32) (x : EReal) (k : ℕ) : Prop :=
  k ≤ 10 ∧ ∀ i : Fin 10, (s (ix1 i) : EReal) < x ↔ i.val < k

/-- Ascending numbers are split by any `x`. -/
theorem splits_of_ascending (s : Vec Ideal S10 .f32) (h : ∀ i j : Fin 10, i ≤ j → (s (ix1 i) : EReal) ≤ s (ix1 j)) (x : EReal) :
    ∃ k, Splits s x k := by
  classical
  have e : ∃ k, ∀ i : Fin 10, (s (ix1 i) : EReal) < x → i.val < k := ⟨10, fun i _ => i.isLt⟩
  refine ⟨Nat.find e, Nat.find_min' e fun i _ => i.isLt, fun i => ⟨Nat.find_spec e i, fun hi => ?_⟩⟩
  by_contra hx
  refine absurd (Nat.find_min' e (m := i.val) fun j hj => ?_) (Nat.not_le.2 hi)
  by_contra hij
  exact hx (lt_of_le_of_lt (h i j (by simpa using hij)) hj)

/-- The padded numbers below `x` are the first `k` too. -/
theorem number_lt {s : Vec Ideal S10 .f32} {x : EReal} {k : ℕ} (h : Splits s x k) (i : ℕ) : number s i < x ↔ i < k := by
  unfold number
  split
  · next hi => exact h.2 ⟨i, hi⟩
  · next hi => exact ⟨fun hx => absurd hx not_top_lt, fun hk => absurd (Nat.lt_of_lt_of_le hk h.1) hi⟩

/-- A selection by whether an entry lies below `x`. -/
theorem below {s : Vec Ideal S10 .f32} {x : EReal} {k : ℕ} (h : Splits s x k) (i : ℕ) (a b : BitVec 32) :
    Scalar.select (FloatOps.cmpf (F := Ideal) (φ := .f32) .olt (number s i) x) a b = if i < k then a else b := by
  show Scalar.select (BitVec.ofBool (decide (number s i < x))) a b = _
  by_cases hi : i < k
  · rw [if_pos hi, decide_eq_true ((number_lt h i).2 hi)]; rfl
  · rw [if_neg hi, decide_eq_false (mt (number_lt h i).1 hi)]; rfl

/-- The place found for `x` in the table is how many of the numbers lie below `x`. -/
theorem place_eq {s : Vec Ideal S10 .f32} {x : EReal} {k : ℕ} (h : Splits s x k) (l : ℕ) :
    place (table s) l x = BitVec.ofNat 32 k := by
  have hk := h.1
  unfold place middle start
  simp only [(table_apply s _).1, (table_apply s _).2.1, (table_apply s _).2.2.1, (table_apply s _).2.2.2, below h]
  clear h
  interval_cases k <;> rfl

end Cert.Proof.Search

end
-- ==== Proof.Reference.lean ====
/-
  The reference's run: its eighteen operations read off the program, what its result holds at the end as a function of
  its two arguments, the arguments as they were, every semaphore at zero.
-/
module

public import proofs.«01_k».proof.ReferenceIdeal
public import proofs.«01_k».proof.Proof.Gen.ReferenceIdeal
public import Idealize.ShloMosaic.Adequacy
public import Idealize.ShloMosaic.Init
public import Idealize.ShloMosaic.Lib.StableHlo.RunHlo
public import Idealize.ShloMosaic.Lib.Claim
public import Idealize.ShloMosaic.Lib.Quiescent

@[expose] public section

noncomputable section

namespace Cert.Proof.Reference

open Cert.ReferenceIdeal Cert.ReferenceIdeal.Gen
open Idealize.ShloMosaic Idealize.SL.Sem
open Idealize.ShloMosaic.StableHlo

variable {F : FTy → Type} [FloatOps F]

/-- For each of the `x` and each of the ten numbers, whether the number is at least that `x`. -/
def reaches (x : Vec F S8388608 .f32) (s : Vec F S10 .f32) : IVec S8388608x10 1 :=
  cmpf .oge (broadcastInDim S8388608x10 ![0, 1] bcast_S1x10_S8388608x10_0_1 (broadcastInDim S1x10 ![1] bcast_S10_S1x10_1 s : Vec F S1x10 .f32) : Vec F S8388608x10 .f32)
    (broadcastInDim S8388608x10 ![0, 1] bcast_S8388608x1_S8388608x10_0_1 (broadcastInDim S8388608x1 ![0] bcast_S8388608_S8388608x1_0 x : Vec F S8388608x1 .f32) : Vec F S8388608x10 .f32)

/-- The largest entry along the second axis of a table of truth values, with its first position. -/
def pairOf (c : IVec S8388608x10 1) : S8388608.Idx → BitVec 32 × BitVec 32 :=
  Host.reduce2 reducer_argmax_i32_i32 (extui 32 c natLt_1_32 : IVec S8388608x10 32) (iotaInDim S8388608x10 32 1 : IVec S8388608x10 32)
    (constantI S_ 32 2147483648#32 : IVec S_ 32) (constantI S_ 32 0#32 : IVec S_ 32) reducesTo_S8388608x10_S8388608_d1 h_S_

/-- That position alone. -/
def firstOf (c : IVec S8388608x10 1) : IVec S8388608 32 := fun j => (pairOf c j).2

/-- Whether any entry along the second axis is true. -/
def anyOf (c : IVec S8388608x10 1) : IVec S8388608 1 :=
  Host.reduce IntOp.ori c (constantI S_ 1 0#1 : IVec S_ 1) reducesTo_S8388608x10_S8388608_d1 h_S_

/-- The reference's result: the first position that reaches, 10 where none does. -/
def answer (x : Vec F S8388608 .f32) (s : Vec F S10 .f32) : IVec S8388608 32 :=
  select (anyOf (reaches x s)) (firstOf (reaches x s)) (broadcastInDim S8388608 ![] bcast_S_S8388608 (constantI S_ 32 10#32 : IVec S_ 32) : IVec S8388608 32)

variable (m : (ℓ : Loc nD τ sig) → Buf (Elt F) ℓ) (ρ : Dev nD → PrngReg)

/-- Every execution of the reference ends with its answer in the result, its arguments as they were and every semaphore
    at zero. -/
theorem run_main :
    θ_run (defs (F := F)) (onTc (τ := τ) (main (F := F))) ⟨m, fun _ => 0, ρ⟩ fun r =>
      (∀ d : Dev nD, r.2.mem ((d.tc : Thread nD τ).loc main_v8)
            = (answer (m ((d.tc : Thread nD τ).loc main_arg0) : Vec F S8388608 .f32) (m ((d.tc : Thread nD τ).loc main_arg1) : Vec F S10 .f32) : IVec S8388608 32)
          ∧ r.2.mem ((d.tc : Thread nD τ).loc main_arg0) = m ((d.tc : Thread nD τ).loc main_arg0)
          ∧ r.2.mem ((d.tc : Thread nD τ).loc main_arg1) = m ((d.tc : Thread nD τ).loc main_arg1))
        ∧ r.2.sem = fun _ => 0 := by
  refine θ_run_mono (run_hlo _ _ (by hlo_seq) (by decide) (by decide) (by simp)
      (by intro _ h; (repeat (cases h with | head => rfl | tail _ h => ?_)); exact nomatch h) m ρ) fun r hr => ⟨fun d => ⟨?_, ?_, ?_⟩, sem_eq_zero_of_no_sems rfl _⟩
  · rw [hr d main_v8]
    after_results
    simp only [TRef.ofBuf_toBuf, id_eq]
    rw [show ∀ v, TRef.toBuf (Val := Elt F) (.of main_v8 : TRef sig ⟨S8388608, .i32⟩) v = v from fun _ => rfl,
      show ∀ v, TRef.ofBuf (Val := Elt F) (.of main_v7 : TRef sig ⟨S8388608, .i1⟩) v = v from fun _ => rfl,
      show ∀ v, TRef.ofBuf (Val := Elt F) (.of main_v5 : TRef sig ⟨S8388608x10, .i32⟩) v = v from fun _ => rfl,
      show ∀ v, TRef.ofBuf (Val := Elt F) (.of main_c_0 : TRef sig ⟨S_, .i32⟩) v = v from fun _ => rfl]
    rfl
  · rw [hr d main_arg0]
    after_results
  · rw [hr d main_arg1]
    after_results

end Cert.Proof.Reference

end
-- ==== Proof.First.lean ====
/-
  The reference's answer, index by index: where the first `k` of the ten numbers lie below `x` and the others do not, it
  is `k`. The largest pair that the reference's reduction keeps is characterised by being one of the pairs and at least
  every other, which does not depend on the order it meets them in.
-/
module

public import proofs.«01_k».proof.Proof.Reference
public import Idealize.ShloMosaic.PureOps.Ideal
public import Idealize.ShloMosaic.PureOps.Reduce
public import Idealize.ShloMosaic.Lib.Pointwise.SelectCore
public import Idealize.ShloMosaic.Lib.Pointwise.Reduce
public import Idealize.ShloMosaic.Lib.ReduceAll

@[expose] public section

noncomputable section

namespace Cert.Proof.Reference

open Cert.ReferenceIdeal Cert.ReferenceIdeal.Gen
open Idealize.ShloMosaic

/-! ## The larger of two pairs -/

/-- `a` comes no later than `b` in the reduction's order: a smaller value, or the same and an index no smaller. -/
def Under (a b : BitVec 32 × BitVec 32) : Prop :=
  a.1.toInt < b.1.toInt ∨ a.1 = b.1 ∧ b.2.toInt ≤ a.2.toInt

theorem Under.rfl' (a : BitVec 32 × BitVec 32) : Under a a := .inr ⟨rfl, le_refl _⟩

theorem Under.trans {a b c : BitVec 32 × BitVec 32} (h : Under a b) (h' : Under b c) : Under a c := by
  rcases h with h | ⟨e, h⟩ <;> rcases h' with h' | ⟨e', h'⟩
  · exact .inl (h.trans h')
  · exact .inl (e' ▸ h)
  · exact .inl (e ▸ h')
  · exact .inr ⟨e.trans e', h'.trans h⟩

/-- What the reducer keeps, written with a condition on the pairs. -/
theorem reducer_eq (a b : BitVec 32 × BitVec 32) :
    reducer_argmax_i32_i32 a b = if b.1.toInt < a.1.toInt ∨ a.1 = b.1 ∧ a.2.toInt < b.2.toInt then a else b := by
  obtain ⟨a1, a2⟩ := a
  obtain ⟨b1, b2⟩ := b
  have h1 : IntOp.cmpi .sgt a1 b1 = BitVec.ofBool (decide (b1.toInt < a1.toInt)) := rfl
  have h2 : IntOp.cmpi .ne a1 a1 = 0#1 := by simp [IntOp.cmpi]
  have h3 : IntOp.cmpi .eq a1 b1 = BitVec.ofBool (decide (a1 = b1)) := by simp [IntOp.cmpi]; rfl
  have h4 : IntOp.cmpi .slt a2 b2 = BitVec.ofBool (decide (a2.toInt < b2.toInt)) := rfl
  unfold reducer_argmax_i32_i32
  simp only [h1, h2, h3, h4]
  by_cases g1 : b1.toInt < a1.toInt <;> by_cases g2 : a1 = b1 <;> by_cases g3 : a2.toInt < b2.toInt <;>
    simp [g1, g2, g3, IntOp.ori, IntOp.andi, Scalar.select]

/-- The reducer keeps one of its two pairs, and the one kept is no earlier than either. -/
theorem reducer_spec (a b : BitVec 32 × BitVec 32) :
    (reducer_argmax_i32_i32 a b = a ∨ reducer_argmax_i32_i32 a b = b)
      ∧ Under a (reducer_argmax_i32_i32 a b) ∧ Under b (reducer_argmax_i32_i32 a b) := by
  rw [reducer_eq]
  split
  · next h => exact ⟨.inl rfl, Under.rfl' a, h.imp id fun h => ⟨h.1.symm, h.2.le⟩⟩
  · next h =>
    rw [not_or, not_and] at h
    refine ⟨.inr rfl, ?_, Under.rfl' b⟩
    rcases lt_or_eq_of_le (not_lt.1 h.1) with g | g
    · exact .inl g
    · exact .inr ⟨BitVec.eq_of_toInt_eq g, not_lt.1 (h.2 (BitVec.eq_of_toInt_eq g))⟩

/-- What the reducer keeps of a list of pairs and a first one is one of them, and no earlier than any of them. -/
theorem kept_spec (L : List (BitVec 32 × BitVec 32)) : ∀ p : BitVec 32 × BitVec 32,
    (L.foldl reducer_argmax_i32_i32 p = p ∨ L.foldl reducer_argmax_i32_i32 p ∈ L)
      ∧ Under p (L.foldl reducer_argmax_i32_i32 p) ∧ ∀ q ∈ L, Under q (L.foldl reducer_argmax_i32_i32 p) := by
  induction L with
  | nil => exact fun p => ⟨.inl rfl, Under.rfl' p, fun _ h => nomatch h⟩
  | cons b L ih =>
    intro p
    obtain ⟨hm, hp, hL⟩ := ih (reducer_argmax_i32_i32 p b)
    obtain ⟨hr, ha, hb⟩ := reducer_spec p b
    refine ⟨?_, ha.trans hp, fun q hq => ?_⟩
    · rcases hm with hm | hm
      · rcases hr with hr | hr
        · exact .inl (hm.trans hr)
        · exact .inr (List.mem_cons.2 (.inl (hm.trans hr)))
      · exact .inr (List.mem_cons_of_mem _ hm)
    · rcases List.mem_cons.1 hq with rfl | hq
      · exact hb.trans hp
      · exact hL q hq

/-! ## The two reductions at an index -/

/-- The pairs of index `j`: the truth values along the second axis, each with its position. -/
theorem mem_fiber (c : IVec S8388608x10 1) (j : S8388608.Idx) (p : BitVec 32 × BitVec 32) :
    p ∈ Host.argReduceFiber (extui 32 c natLt_1_32 : IVec S8388608x10 32) (iotaInDim S8388608x10 32 1 : IVec S8388608x10 32)
        reducesTo_S8388608x10_S8388608_d1 j
      ↔ ∃ i : Fin 10, p = ((c (ix2 (j 0) i)).setWidth 32, BitVec.ofNat 32 i.val) := by
  unfold Host.argReduceFiber
  rw [List.mem_map]
  constructor
  · rintro ⟨n, hn, rfl⟩
    rw [List.mem_filter, decide_eq_true_iff] at hn
    obtain ⟨i, hi⟩ := (Shape.ReducesTo.fiber_r2_a1 _ j _).1 hn.2
    exact ⟨i, by rw [← hi]; rfl⟩
  · rintro ⟨i, rfl⟩
    refine ⟨S8388608x10.rowMajor (ix2 (j 0) i), List.mem_filter.2 ⟨List.mem_finRange _, ?_⟩, ?_⟩
    · rw [decide_eq_true_iff, Equiv.symm_apply_apply]
      exact (Shape.ReducesTo.fiber_r2_a1 _ j _).2 ⟨i, rfl⟩
    · rw [Equiv.symm_apply_apply]; rfl

/-- Of ten truth values, each with its position, the pair kept is the first true one's. -/
theorem kept_first (c : Fin 10 → BitVec 1) (L : List (BitVec 32 × BitVec 32))
    (hL : ∀ p, p ∈ L ↔ ∃ i : Fin 10, p = ((c i).setWidth 32, BitVec.ofNat 32 i.val)) (k : Fin 10)
    (hc : ∀ i : Fin 10, i ≤ k → (c i = 1#1 ↔ i = k)) :
    (L.foldl reducer_argmax_i32_i32 (2147483648#32, 0#32)).2 = BitVec.ofNat 32 k.val := by
  obtain ⟨hm, -, hu⟩ := kept_spec L (2147483648#32, 0#32)
  have hu := hu _ ((hL _).2 ⟨k, rfl⟩)
  rw [(hc k (le_refl k)).2 rfl] at hu
  revert hm hu
  generalize L.foldl reducer_argmax_i32_i32 (2147483648#32, 0#32) = r
  rintro (rfl | hm) hu
  · rcases hu with hu | ⟨hu, -⟩
    · exact absurd (show (BitVec.setWidth 32 1#1).toInt < (2147483648#32).toInt from hu) (by decide)
    · exact absurd (show BitVec.setWidth 32 1#1 = 2147483648#32 from hu) (by decide)
  · obtain ⟨i, rfl⟩ := (hL r).1 hm
    rcases BitVec.eq_zero_or_eq_one (c i) with hi | hi
    · rw [hi] at hu
      rcases hu with hu | ⟨hu, -⟩
      · exact absurd (show (BitVec.setWidth 32 1#1).toInt < (BitVec.setWidth 32 0#1).toInt from hu) (by decide)
      · exact absurd (show BitVec.setWidth 32 1#1 = BitVec.setWidth 32 0#1 from hu) (by decide)
    · rw [hi] at hu
      have hik : i ≤ k := by
        rcases hu with hu | ⟨-, hu⟩
        · exact absurd hu (lt_irrefl _)
        · clear hc hi hm
          revert hu; revert i k; decide
      rw [(hc i hik).1 hi]

/-- The pair at an index is what the reducer keeps of that index's pairs. -/
theorem pairOf_apply (c : IVec S8388608x10 1) (j : S8388608.Idx) :
    pairOf c j = (Host.argReduceFiber (extui 32 c natLt_1_32 : IVec S8388608x10 32)
      (iotaInDim S8388608x10 32 1 : IVec S8388608x10 32) reducesTo_S8388608x10_S8388608_d1 j).foldl reducer_argmax_i32_i32 (2147483648#32, 0#32) := by
  unfold pairOf
  rw [Host.reduce2_eq_foldl_fiber]
  rfl

/-- The position found, as the second of the pair. -/
theorem firstOf_eq (c : IVec S8388608x10 1) : firstOf c = fun j => (pairOf c j).2 := rfl

/-- Where the truth value at position `k` holds and none before does, the position found is `k`. -/
theorem firstOf_apply (c : IVec S8388608x10 1) (j : S8388608.Idx) (k : Fin 10)
    (hc : ∀ i : Fin 10, i ≤ k → (c (ix2 (j 0) i) = 1#1 ↔ i = k)) : firstOf c j = BitVec.ofNat 32 k.val :=
  (congrFun (firstOf_eq c) j).trans <| (congrArg Prod.snd (pairOf_apply c j)).trans (kept_first (fun i => c (ix2 (j 0) i)) _ (mem_fiber c j) k hc)

/-- A left fold by `or` over truth values is true exactly if it started true or met a true one. -/
theorem foldl_ori {ι : Type} (f : ι → BitVec 1) (L : List ι) : ∀ b : BitVec 1,
    L.foldl (fun r n => IntOp.ori r (f n)) b = 1#1 ↔ b = 1#1 ∨ ∃ n ∈ L, f n = 1#1 := by
  induction L with
  | nil => simp
  | cons a L ih =>
    intro b
    rw [List.foldl_cons, ih, show IntOp.ori b (f a) = 1#1 ↔ b = 1#1 ∨ f a = 1#1 from by
      unfold IntOp.ori; generalize f a = y; revert b y; decide]
    simp [or_assoc]

/-- Whether any entry is true, at an index. -/
theorem anyOf_apply (c : IVec S8388608x10 1) (j : S8388608.Idx) : anyOf c j = 1#1 ↔ ∃ i : Fin 10, c (ix2 (j 0) i) = 1#1 := by
  unfold anyOf
  rw [Host.reduce_eq_foldl, foldl_ori]
  constructor
  · rintro (h | ⟨n, hn, h⟩)
    · exact absurd h (by decide)
    · rw [List.mem_filter, decide_eq_true_iff] at hn
      obtain ⟨i, hi⟩ := (Shape.ReducesTo.fiber_r2_a1 _ j _).1 hn.2
      exact ⟨i, by rw [← h, ← hi]; rfl⟩
  · rintro ⟨i, h⟩
    refine .inr ⟨ix2 (j 0) i, List.mem_filter.2 ⟨List.mem_map.2 ⟨S8388608x10.rowMajor (ix2 (j 0) i), List.mem_finRange _, Equiv.symm_apply_apply _ _⟩, ?_⟩, h⟩
    rw [decide_eq_true_iff]
    exact (Shape.ReducesTo.fiber_r2_a1 _ j _).2 ⟨i, rfl⟩

/-! ## The answer -/

/-- A number reaches `x` if it is not below it. -/
theorem reaches_apply (x : Vec Ideal S8388608 .f32) (s : Vec Ideal S10 .f32) (j : S8388608.Idx) (i : Fin 10) :
    reaches x s (ix2 (j 0) i) = 1#1 ↔ ¬(s (ix1 i) : EReal) < x j := by
  have h1 : (broadcastInDim S8388608x10 ![0, 1] bcast_S1x10_S8388608x10_0_1 (broadcastInDim S1x10 ![1] bcast_S10_S1x10_1 s : Vec Ideal S1x10 .f32) : Vec Ideal S8388608x10 .f32) (ix2 (j 0) i) = s (ix1 i) :=
    (broadcastInDim_apply _ _ _ _ (ix2 0 i) fun a => match a with | ⟨0, _⟩ => rfl | ⟨1, _⟩ => rfl).trans
      (broadcastInDim_apply _ _ _ _ (ix1 i) fun a => match a with | ⟨0, _⟩ => rfl)
  have h2 : (broadcastInDim S8388608x10 ![0, 1] bcast_S8388608x1_S8388608x10_0_1 (broadcastInDim S8388608x1 ![0] bcast_S8388608_S8388608x1_0 x : Vec Ideal S8388608x1 .f32) : Vec Ideal S8388608x10 .f32) (ix2 (j 0) i) = x j :=
    (broadcastInDim_apply _ _ _ _ (ix2 (j 0) 0) fun a => match a with | ⟨0, _⟩ => rfl | ⟨1, _⟩ => rfl).trans
      (broadcastInDim_apply _ _ _ _ j fun a => match a with | ⟨0, _⟩ => rfl)
  show Ideal.cmp .oge _ _ = 1#1 ↔ _
  rw [h1, h2, not_lt]
  show BitVec.ofBool (decide ((x j : EReal) ≤ s (ix1 i))) = 1#1 ↔ _
  by_cases h : (x j : EReal) ≤ s (ix1 i) <;> simp [h]

/-- Where exactly the first `k` of the ten numbers lie below `x`, the answer is `k`. -/
theorem answer_apply (x : Vec Ideal S8388608 .f32) (s : Vec Ideal S10 .f32) (j : S8388608.Idx) (k : ℕ) (hk : k ≤ 10)
    (h : ∀ i : Fin 10, (s (ix1 i) : EReal) < x j ↔ i.val < k) : answer x s j = BitVec.ofNat 32 k := by
  show Scalar.select (anyOf (reaches x s) j) (firstOf (reaches x s) j) 10#32 = _
  rcases Nat.lt_or_ge k 10 with hlt | hge
  · rw [(anyOf_apply _ j).2 ⟨⟨k, hlt⟩, (reaches_apply x s j _).2 (mt (h _).1 (Nat.lt_irrefl k))⟩,
      firstOf_apply _ j ⟨k, hlt⟩ fun i hi => ?_]
    · rfl
    · rw [reaches_apply, h]
      exact ⟨fun e => Fin.ext (Nat.le_antisymm hi (not_lt.1 e)), fun e => e ▸ Nat.lt_irrefl k⟩
  · obtain rfl : k = 10 := Nat.le_antisymm hk hge
    rw [(bit_ne_one_iff _).1 (mt (anyOf_apply _ j).1 fun ⟨i, hi⟩ => (reaches_apply x s j i).1 hi ((h i).2 i.isLt))]
    rfl

end Cert.Proof.Reference

end
-- ==== Proof.Value.lean ====
/-
  The kernel's result and the reference's are the same function of ascending numbers: the precondition read as an order on
  the ten numbers, and the two values joined at the count of the numbers below each `x`.
-/
module

public import proofs.«01_k».proof.Pre_ascending
public import proofs.«01_k».proof.Proof.Order
public import proofs.«01_k».proof.Proof.First

@[expose] public section

noncomputable section

namespace Cert.Proof

open Idealize.ShloMosaic

/-- The precondition says that the ten numbers ascend. -/
theorem ascending_of_pre [Cert.Pre_ascending.Facts] (x : FVec Ideal Cert.Pre_ascending.S8388608 .f32) (s : FVec Ideal Cert.Pre_ascending.S10 .f32)
    (h : Cert.Pre_ascending.fn (F := Ideal) x s = fun _ => 1#1) (i j : Fin 10) (hij : i ≤ j) : (s (ix1 i) : EReal) ≤ s (ix1 j) := by
  have : Subsingleton Cert.Pre_ascending.S_.Idx := ⟨fun a b => funext fun d => d.elim0⟩
  have step : ∀ k : Fin 9, (s (ix1 k.castSucc) : EReal) ≤ s (ix1 k.succ) := fun k => by
    have e := Host.reduce_andi_all _ _ _ _ (fun d => d.elim0) (congrFun h fun d => d.elim0) (ix1 k)
    have e0 := extractStridedSlice_apply (s := Cert.Pre_ascending.S10) (t := Cert.Pre_ascending.S9) ![0] s Cert.Pre_ascending.Facts.slices_S10_S9_0 (ix1 k) (ix1 k.castSucc)
      fun a => match a with | ⟨0, _⟩ => (Nat.zero_add _).symm
    have e1 := extractStridedSlice_apply (s := Cert.Pre_ascending.S10) (t := Cert.Pre_ascending.S9) ![1] s Cert.Pre_ascending.Facts.slices_S10_S9_1 (ix1 k) (ix1 k.succ)
      fun a => match a with | ⟨0, _⟩ => Nat.add_comm k.val 1
    have e : Ideal.cmp .ole (extractStridedSlice Cert.Pre_ascending.S9 ![0] s Cert.Pre_ascending.Facts.slices_S10_S9_0 (ix1 k))
        (extractStridedSlice Cert.Pre_ascending.S9 ![1] s Cert.Pre_ascending.Facts.slices_S10_S9_1 (ix1 k)) = 1#1 := e
    rw [e0, e1] at e
    by_contra hn
    have e : BitVec.ofBool (decide ((s (ix1 k.castSucc) : EReal) ≤ s (ix1 k.succ))) = 1#1 := e
    rw [decide_eq_false hn] at e
    exact absurd e (by decide)
  exact Fin.monotone_iff_le_succ (f := fun i : Fin 10 => (s (ix1 i) : EReal)) |>.2 step hij

/-- For ascending numbers the kernel's result is the reference's. -/
theorem found_eq_answer (x : FVec Ideal Cert.KernelIdeal.S8388608 .f32) (s : FVec Ideal Cert.KernelIdeal.S10 .f32)
    (h : ∀ i j : Fin 10, i ≤ j → (s (ix1 i) : EReal) ≤ s (ix1 j)) :
    Search.found (F := Ideal) (Search.table s) x = Reference.answer (F := Ideal) x s := funext fun j => by
  obtain ⟨k, hk⟩ := Search.splits_of_ascending s h (x j)
  exact (Search.place_eq hk _).trans (Reference.answer_apply x s j k hk.1 hk.2).symm

end Cert.Proof

end
-- ==== Proof.lean ====
/-
  The claim: the kernel, read at machine words and at the extended reals, and the reference each run to the end with their
  arguments as they were and every semaphore at zero; and from equal arguments with the ten numbers ascending the kernel
  and the reference leave equal results. The kernel's run is proved once for every reading of its numbers (`Launch`), the
  reference's in `Reference`, and the two results are joined in `Value`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_ascending
public import proofs.«01_k».proof.Proof.Launch
public import proofs.«01_k».proof.Proof.Value

@[expose] public section

noncomputable section

namespace Cert.Proof

open Idealize.ShloMosaic Idealize.SL.Sem

attribute [local instance] Cert.Kernel.Gen.facts Cert.KernelIdeal.Gen.facts Cert.ReferenceIdeal.Gen.facts Cert.Pre_ascending.Gen.facts

/-- The kernel at machine words: its arguments kept, its semaphores at zero. -/
theorem kernel_quiescent : Cert.quiescent_Kernel := fun m g _ =>
  θ_run_mono (Search.run_main (F := Bits) m g) fun _ h => ⟨fun d => (h.1 d).2, h.2⟩

/-- The kernel at the extended reals: its arguments kept, its semaphores at zero. -/
theorem ideal_quiescent : Cert.quiescent_KernelIdeal := fun m g _ =>
  θ_run_mono (Search.run_main (F := Ideal) m g) fun _ h => ⟨fun d => (h.1 d).2, h.2⟩

/-- The reference: its arguments kept, its semaphores at zero. -/
theorem reference_quiescent : Cert.quiescent_ReferenceIdeal := fun m g _ =>
  θ_run_mono (Reference.run_main (F := Ideal) m g) fun _ h => ⟨fun d => (h.1 d).2, h.2⟩

/-- From equal arguments with the ten numbers ascending, the kernel and the reference leave equal results. -/
theorem results_equal : Cert.algebraic_KernelIdeal_ReferenceIdeal_pre_ascending := fun m g m' g' hpre hagree =>
  ⟨fun d => Search.result m d,
    θ_run_mono (Search.run_main (F := Ideal) m g) fun _ h d => h.1 d,
    θ_run_mono (Reference.run_main (F := Ideal) m' g') fun _ h d => by
      refine ⟨(h.1 d).1.trans ?_, (h.1 d).2⟩
      rw [(hagree d).1, (hagree d).2]
      exact (found_eq_answer _ _ (ascending_of_pre _ _ (hpre d))).symm⟩

theorem claim : Cert.Claim :=
  ⟨Cert.Kernel.Gen.facts, Cert.KernelIdeal.Gen.facts, Cert.ReferenceIdeal.Gen.facts, Cert.Pre_ascending.Gen.facts,
    kernel_quiescent, ideal_quiescent, fun m g _ => ideal_quiescent m g trivial, reference_quiescent,
    fun m g _ => reference_quiescent m g trivial, trivial, results_equal⟩

end Cert.Proof

end
